-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32768x20 : Shape := ⟨2, ![32768, 20]⟩
abbrev S32768 : Shape := ⟨1, ![32768]⟩
abbrev S128x64 : Shape := ⟨2, ![128, 64]⟩
abbrev S384x64 : Shape := ⟨2, ![384, 64]⟩
abbrev S384x128 : Shape := ⟨2, ![384, 128]⟩
abbrev S384 : Shape := ⟨1, ![384]⟩
abbrev S128x256 : Shape := ⟨2, ![128, 256]⟩
abbrev S128 : Shape := ⟨1, ![128]⟩
abbrev S128x1 : Shape := ⟨2, ![128, 1]⟩
abbrev S_ : Shape := ⟨0, ![]⟩

class Facts : Prop where
  bcast_S_S32768x20 : S_.BroadcastsInDim S32768x20 (![] : Fin 0 → Fin S32768x20.rank)
  reducesTo_S32768x20_S_d0_1 : S32768x20.ReducesTo [0, 1] S_
  h_S_ : 0 < S_.numel
  bcast_S_S32768 : S_.BroadcastsInDim S32768 (![] : Fin 0 → Fin S32768.rank)
  reducesTo_S32768_S_d0 : S32768.ReducesTo [0] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : IVec S32768x20 32) (main_arg1 : IVec S32768 32) (main_arg2 : FVec F S128x64 .f32) (main_arg3 : FVec F S384x64 .f32) (main_arg4 : FVec F S384x128 .f32) (main_arg5 : FVec F S384 .f32) (main_arg6 : FVec F S384 .f32) (main_arg7 : FVec F S384x64 .f32) (main_arg8 : FVec F S384x128 .f32) (main_arg9 : FVec F S384 .f32) (main_arg10 : FVec F S384 .f32) (main_arg11 : FVec F S128x256 .f32) (main_arg12 : FVec F S128 .f32) (main_arg13 : FVec F S128x1 .f32) : IVec S_ 1 :=
  let main_c : IVec S_ 32 := constantI S_ 32 0#32
  let main_v0 : IVec S32768x20 32 := broadcastInDim S32768x20 ![] bcast_S_S32768x20 main_c
  let main_v1 : IVec S32768x20 1 := cmpi .sge main_arg0 main_v0
  let main_c_0 : IVec S_ 1 := constantI S_ 1 1#1
  let main_v2 : IVec S_ 1 := (fun x v => Host.reduce IntOp.andi x v reducesTo_S32768x20_S_d0_1 h_S_) main_v1 main_c_0
  let main_c_1 : IVec S_ 32 := constantI S_ 32 128#32
  let main_v3 : IVec S32768x20 32 := broadcastInDim S32768x20 ![] bcast_S_S32768x20 main_c_1
  let main_v4 : IVec S32768x20 1 := cmpi .slt main_arg0 main_v3
  let main_c_2 : IVec S_ 1 := constantI S_ 1 1#1
  let main_v5 : IVec S_ 1 := (fun x v => Host.reduce IntOp.andi x v reducesTo_S32768x20_S_d0_1 h_S_) main_v4 main_c_2
  let main_v6 : IVec S_ 1 := andi main_v2 main_v5
  let main_c_3 : IVec S_ 32 := constantI S_ 32 20#32
  let main_v7 : IVec S32768 32 := broadcastInDim S32768 ![] bcast_S_S32768 main_c_3
  let main_v8 : IVec S32768 1 := cmpi .sle main_arg1 main_v7
  let main_c_4 : IVec S_ 1 := constantI S_ 1 1#1
  let main_v9 : IVec S_ 1 := (fun x v => Host.reduce IntOp.andi x v reducesTo_S32768_S_d0 h_S_) main_v8 main_c_4
  let main_v10 : IVec S_ 1 := andi main_v6 main_v9
  let main_v11 : FVec F S128x1 .f32 := Host.absf main_arg13
  let main_cst : FVec F S_ .f32 := constant S_ .f32 0x7F800000#32
  let main_v12 : FVec F S128x1 .f32 := broadcastInDim S128x1 ![] bcast_S_S128x1 main_cst
  let main_v13 : IVec S128x1 1 := cmpf .olt main_v11 main_v12
  let main_c_5 : IVec S_ 1 := constantI S_ 1 1#1
  let main_v14 : IVec S_ 1 := (fun x v => Host.reduce IntOp.andi x v reducesTo_S128x1_S_d0_1 h_S_) main_v13 main_c_5
  let main_v15 : IVec S_ 1 := andi main_v10 main_v14
  main_v15
-- ==== Kernel.lean ====
abbrev S32768x20 : Shape := ⟨2, ![32768, 20]⟩
abbrev S32768 : Shape := ⟨1, ![32768]⟩
abbrev S128x64 : Shape := ⟨2, ![128, 64]⟩
abbrev S384x64 : Shape := ⟨2, ![384, 64]⟩
abbrev S384x128 : Shape := ⟨2, ![384, 128]⟩
abbrev S384 : Shape := ⟨1, ![384]⟩
abbrev S128x256 : Shape := ⟨2, ![128, 256]⟩
abbrev S128 : Shape := ⟨1, ![128]⟩
abbrev S128x1 : Shape := ⟨2, ![128, 1]⟩
abbrev S32768x1 : Shape := ⟨2, ![32768, 1]⟩
abbrev S64x384 : Shape := ⟨2, ![64, 384]⟩
abbrev S64x768 : Shape := ⟨2, ![64, 768]⟩
abbrev S768 : Shape := ⟨1, ![768]⟩
abbrev S1x768 : Shape := ⟨2, ![1, 768]⟩
abbrev S128x384 : Shape := ⟨2, ![128, 384]⟩
abbrev S1x384 : Shape := ⟨2, ![1, 384]⟩
abbrev S256x128 : Shape := ⟨2, ![256, 128]⟩
abbrev S1x128 : Shape := ⟨2, ![1, 128]⟩
abbrev S32768x256 : Shape := ⟨2, ![32768, 256]⟩
abbrev S1024x20 : Shape := ⟨2, ![1024, 20]⟩
abbrev S1024x1 : Shape := ⟨2, ![1024, 1]⟩
abbrev S1024x256 : Shape := ⟨2, ![1024, 256]⟩
abbrev S1024x128 : Shape := ⟨2, ![1024, 128]⟩
abbrev S128x768 : Shape := ⟨2, ![128, 768]⟩
abbrev S127x384 : Shape := ⟨2, ![127, 384]⟩
abbrev S256x384 : Shape := ⟨2, ![256, 384]⟩
abbrev S1024x384 : Shape := ⟨2, ![1024, 384]⟩
abbrev S1024 : Shape := ⟨1, ![1024]⟩

abbrev nBuf : Space → Nat
  | .hbm => 28
  | .vmem => 16
  | .smem => 0
  | _ => 0

abbrev bufTy : (tb : Table) → Fin (tcTables nBuf tb) → BufTy
  | .hbm, ⟨0, _⟩ => ⟨S32768x20, .i32⟩
  | .hbm, ⟨1, _⟩ => ⟨S32768, .i32⟩
  | .hbm, ⟨2, _⟩ => ⟨S128x64, .f32⟩
  | .hbm, ⟨3, _⟩ => ⟨S384x64, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S384x64, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S128x256, .f32⟩
  | .hbm, ⟨12, _⟩ => ⟨S128, .f32⟩
  | .hbm, ⟨13, _⟩ => ⟨S128x1, .f32⟩
  | .hbm, ⟨14, _⟩ => ⟨S32768x1, .i32⟩
  | .hbm, ⟨15, _⟩ => ⟨S64x384, .f32⟩
  | .hbm, ⟨16, _⟩ => ⟨S64x384, .f32⟩
  | .hbm, ⟨17, _⟩ => ⟨S64x768, .f32⟩
  | .hbm, ⟨18, _⟩ => ⟨S768, .f32⟩
  | .hbm, ⟨19, _⟩ => ⟨S1x768, .f32⟩
  | .hbm, ⟨20, _⟩ => ⟨S128x384, .f32⟩
  | .hbm, ⟨21, _⟩ => ⟨S128x384, .f32⟩
  | .hbm, ⟨22, _⟩ => ⟨S1x384, .f32⟩
  | .hbm, ⟨23, _⟩ => ⟨S1x384, .f32⟩
  | .hbm, ⟨24, _⟩ => ⟨S256x128, .f32⟩
  | .hbm, ⟨25, _⟩ => ⟨S1x128, .f32⟩
  | .hbm, ⟨26, _⟩ => ⟨S1x128, .f32⟩
  | .hbm, ⟨27, _⟩ => ⟨S32768x256, .f32⟩
  | .local _ .vmem, ⟨0, _⟩ => ⟨S1024x20, .i32⟩
  | .local _ .vmem, ⟨1, _⟩ => ⟨S1024x20, .i32⟩
  | .local _ .vmem, ⟨2, _⟩ => ⟨S1024x1, .i32⟩
  | .local _ .vmem, ⟨3, _⟩ => ⟨S1024x1, .i32⟩
  | .local _ .vmem, ⟨4, _⟩ => ⟨S128x64, .f32⟩
  | .local _ .vmem, ⟨5, _⟩ => ⟨S64x768, .f32⟩
  | .local _ .vmem, ⟨6, _⟩ => ⟨S128x384, .f32⟩
  | .local _ .vmem, ⟨7, _⟩ => ⟨S128x384, .f32⟩
  | .local _ .vmem, ⟨8, _⟩ => ⟨S1x768, .f32⟩
  | .local _ .vmem, ⟨9, _⟩ => ⟨S1x384, .f32⟩
  | .local _ .vmem, ⟨10, _⟩ => ⟨S1x384, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S1024x256, .f32⟩
  | .local _ .vmem, ⟨15, _⟩ => ⟨S1024x256, .f32⟩
  | _, _ => ⟨S32768x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32768x20 : Shape := ⟨2, ![32768, 20]⟩
abbrev S32768 : Shape := ⟨1, ![32768]⟩
abbrev S128x64 : Shape := ⟨2, ![128, 64]⟩
abbrev S384x64 : Shape := ⟨2, ![384, 64]⟩
abbrev S384x128 : Shape := ⟨2, ![384, 128]⟩
abbrev S384 : Shape := ⟨1, ![384]⟩
abbrev S128x256 : Shape := ⟨2, ![128, 256]⟩
abbrev S128 : Shape := ⟨1, ![128]⟩
abbrev S128x1 : Shape := ⟨2, ![128, 1]⟩
abbrev S_ : Shape := ⟨0, ![]⟩
abbrev S32768x20x1 : Shape := ⟨3, ![32768, 20, 1]⟩
abbrev S32768x20x64 : Shape := ⟨3, ![32768, 20, 64]⟩
abbrev S20 : Shape := ⟨1, ![20]⟩
abbrev S1x20 : Shape := ⟨2, ![1, 20]⟩
abbrev S32768x1 : Shape := ⟨2, ![32768, 1]⟩
abbrev S64x384 : Shape := ⟨2, ![64, 384]⟩
abbrev S32768x20x384 : Shape := ⟨3, ![32768, 20, 384]⟩
abbrev S1x1x384 : Shape := ⟨3, ![1, 1, 384]⟩
abbrev S32768x128 : Shape := ⟨2, ![32768, 128]⟩
abbrev S20x32768x384 : Shape := ⟨3, ![20, 32768, 384]⟩
abbrev S20x32768x128 : Shape := ⟨3, ![20, 32768, 128]⟩
abbrev S1x32768x384 : Shape := ⟨3, ![1, 32768, 384]⟩
abbrev S32768x384 : Shape := ⟨2, ![32768, 384]⟩
abbrev S128x384 : Shape := ⟨2, ![128, 384]⟩
abbrev S1x384 : Shape := ⟨2, ![1, 384]⟩
abbrev S1x32768x128 : Shape := ⟨3, ![1, 32768, 128]⟩
abbrev S32768x20x128 : Shape := ⟨3, ![32768, 20, 128]⟩
abbrev S32768x20x256 : Shape := ⟨3, ![32768, 20, 256]⟩
abbrev S256x128 : Shape := ⟨2, ![256, 128]⟩
abbrev S1x1x128 : Shape := ⟨3, ![1, 1, 128]⟩
abbrev S32768x256 : Shape := ⟨2, ![32768, 256]⟩

abbrev nBuf : Space → Nat
  | .hbm => 233
  | .vmem => 0
  | .smem => 0
  | _ => 0

abbrev hbmTy0_0 (i : Nat) : BufTy := match i % 128 with
  | 0 => ⟨S32768x20, .i32⟩
  | 1 => ⟨S32768, .i32⟩
  | 2 => ⟨S128x64, .f32⟩
  | 3 => ⟨S384x64, .f32⟩
  | 4 => ⟨S384x128, .f32⟩
  | 5 => ⟨S384, .f32⟩
  | 6 => ⟨S384, .f32⟩
  | 7 => ⟨S384x64, .f32⟩
  | 8 => ⟨S384x128, .f32⟩
  | 9 => ⟨S384, .f32⟩
  | 10 => ⟨S384, .f32⟩
  | 11 => ⟨S128x256, .f32⟩
  | 12 => ⟨S128, .f32⟩
  | 13 => ⟨S128x1, .f32⟩
  | 14 => ⟨S_, .i32⟩
  | 15 => ⟨S32768x20, .i32⟩
  | 16 => ⟨S32768x20, .i1⟩
  | 17 => ⟨S_, .i32⟩
  | 18 => ⟨S32768x20, .i32⟩
  | 19 => ⟨S32768x20, .i32⟩
  | 20 => ⟨S32768x20, .i32⟩
  | 21 => ⟨S32768x20x1, .i32⟩
  | 22 => ⟨S32768x20x64, .f32⟩
  | 23 => ⟨S20, .i32⟩
  | 24 => ⟨S1x20, .i32⟩
  | 25 => ⟨S32768x1, .i32⟩
  | 26 => ⟨S32768x20, .i32⟩
  | 27 => ⟨S32768x20, .i32⟩
  | 28 => ⟨S32768x20, .i1⟩
  | 29 => ⟨S32768x1, .i32⟩
  | 30 => ⟨S_, .i32⟩
  | 31 => ⟨S32768x1, .i32⟩
  | 32 => ⟨S32768x1, .i32⟩
  | 33 => ⟨S32768x20, .i32⟩
  | 34 => ⟨S32768x20, .i32⟩
  | 35 => ⟨S32768x20, .i32⟩
  | 36 => ⟨S32768x20, .i32⟩
  | 37 => ⟨S32768x20, .i32⟩
  | 38 => ⟨S32768x20x1, .i32⟩
  | 39 => ⟨S_, .i32⟩
  | 40 => ⟨S32768x20x1, .i32⟩
  | 41 => ⟨S32768x20x1, .i1⟩
  | 42 => ⟨S_, .i32⟩
  | 43 => ⟨S32768x20x1, .i32⟩
  | 44 => ⟨S32768x20x1, .i32⟩
  | 45 => ⟨S32768x20x1, .i32⟩
  | 46 => ⟨S32768x20x64, .f32⟩
  | 47 => ⟨S64x384, .f32⟩
  | 48 => ⟨S32768x20x384, .f32⟩
  | 49 => ⟨S1x1x384, .f32⟩
  | 50 => ⟨S32768x20x384, .f32⟩
  | 51 => ⟨S32768x20x384, .f32⟩
  | 52 => ⟨S64x384, .f32⟩
  | 53 => ⟨S32768x20x384, .f32⟩
  | 54 => ⟨S1x1x384, .f32⟩
  | 55 => ⟨S32768x20x384, .f32⟩
  | 56 => ⟨S32768x20x384, .f32⟩
  | 57 => ⟨S_, .f32⟩
  | 58 => ⟨S32768x128, .f32⟩
  | 59 => ⟨S20x32768x384, .f32⟩
  | 60 => ⟨S20x32768x384, .f32⟩
  | 61 => ⟨S_, .f32⟩
  | 62 => ⟨S20x32768x128, .f32⟩
  | 63 => ⟨S_, .f32⟩
  | 64 => ⟨S20x32768x128, .f32⟩
  | 65 => ⟨S_, .i32⟩
  | 66 => ⟨S20x32768x384, .f32⟩
  | 67 => ⟨S20x32768x384, .f32⟩
  | 68 => ⟨S384x128, .f32⟩
  | 69 => ⟨S384, .f32⟩
  | 70 => ⟨S384x128, .f32⟩
  | 71 => ⟨S384, .f32⟩
  | 72 => ⟨S_, .i32⟩
  | 73 => ⟨S32768x128, .f32⟩
  | 74 => ⟨S32768x128, .f32⟩
  | 75 => ⟨S20x32768x128, .f32⟩
  | 76 => ⟨S20x32768x128, .f32⟩
  | 77 => ⟨S_, .i32⟩
  | 78 => ⟨S_, .i1⟩
  | 79 => ⟨S_, .i32⟩
  | 80 => ⟨S_, .i32⟩
  | 81 => ⟨S1x32768x384, .f32⟩
  | 82 => ⟨S32768x384, .f32⟩
  | 83 => ⟨S_, .i32⟩
  | 84 => ⟨S_, .i32⟩
  | 85 => ⟨S1x32768x384, .f32⟩
  | 86 => ⟨S32768x384, .f32⟩
  | 87 => ⟨S128x384, .f32⟩
  | 88 => ⟨S32768x384, .f32⟩
  | 89 => ⟨S1x384, .f32⟩
  | 90 => ⟨S32768x384, .f32⟩
  | 91 => ⟨S32768x384, .f32⟩
  | 92 => ⟨S32768x128, .f32⟩
  | 93 => ⟨S32768x128, .f32⟩
  | 94 => ⟨S32768x128, .f32⟩
  | 95 => ⟨S32768x128, .f32⟩
  | 96 => ⟨S32768x128, .f32⟩
  | 97 => ⟨S_, .f32⟩
  | 98 => ⟨S32768x128, .f32⟩
  | 99 => ⟨S32768x128, .f32⟩
  | 100 => ⟨S_, .f32⟩
  | 101 => ⟨S32768x128, .f32⟩
  | 102 => ⟨S32768x128, .f32⟩
  | 103 => ⟨S32768x128, .f32⟩
  | 104 => ⟨S32768x128, .f32⟩
  | 105 => ⟨S32768x128, .f32⟩
  | 106 => ⟨S32768x128, .f32⟩
  | 107 => ⟨S32768x128, .f32⟩
  | 108 => ⟨S_, .f32⟩
  | 109 => ⟨S32768x128, .f32⟩
  | 110 => ⟨S32768x128, .f32⟩
  | 111 => ⟨S_, .f32⟩
  | 112 => ⟨S32768x128, .f32⟩
  | 113 => ⟨S32768x128, .f32⟩
  | 114 => ⟨S32768x128, .f32⟩
  | 115 => ⟨S32768x128, .f32⟩
  | 116 => ⟨S32768x128, .f32⟩
  | 117 => ⟨S32768x128, .f32⟩
  | 118 => ⟨S32768x128, .f32⟩
  | 119 => ⟨S_, .f32⟩
  | 120 => ⟨S32768x128, .f32⟩
  | 121 => ⟨S32768x128, .f32⟩
  | 122 => ⟨S32768x128, .f32⟩
  | 123 => ⟨S32768x128, .f32⟩
  | 124 => ⟨S32768x128, .f32⟩
  | 125 => ⟨S128x384, .f32⟩
  | 126 => ⟨S32768x384, .f32⟩
  | 127 => ⟨S1x384, .f32⟩
  | _ => ⟨S32768x20, .i32⟩

abbrev hbmTy0_1 (i : Nat) : BufTy := match i % 128 with
  | 0 => ⟨S32768x384, .f32⟩
  | 1 => ⟨S32768x384, .f32⟩
  | 2 => ⟨S32768x128, .f32⟩
  | 3 => ⟨S32768x128, .f32⟩
  | 4 => ⟨S32768x128, .f32⟩
  | 5 => ⟨S32768x128, .f32⟩
  | 6 => ⟨S32768x128, .f32⟩
  | 7 => ⟨S_, .f32⟩
  | 8 => ⟨S32768x128, .f32⟩
  | 9 => ⟨S32768x128, .f32⟩
  | 10 => ⟨S_, .f32⟩
  | 11 => ⟨S32768x128, .f32⟩
  | 12 => ⟨S32768x128, .f32⟩
  | 13 => ⟨S32768x128, .f32⟩
  | 14 => ⟨S32768x128, .f32⟩
  | 15 => ⟨S32768x128, .f32⟩
  | 16 => ⟨S32768x128, .f32⟩
  | 17 => ⟨S32768x128, .f32⟩
  | 18 => ⟨S_, .f32⟩
  | 19 => ⟨S32768x128, .f32⟩
  | 20 => ⟨S32768x128, .f32⟩
  | 21 => ⟨S_, .f32⟩
  | 22 => ⟨S32768x128, .f32⟩
  | 23 => ⟨S32768x128, .f32⟩
  | 24 => ⟨S32768x128, .f32⟩
  | 25 => ⟨S32768x128, .f32⟩
  | 26 => ⟨S32768x128, .f32⟩
  | 27 => ⟨S32768x128, .f32⟩
  | 28 => ⟨S32768x128, .f32⟩
  | 29 => ⟨S_, .f32⟩
  | 30 => ⟨S32768x128, .f32⟩
  | 31 => ⟨S32768x128, .f32⟩
  | 32 => ⟨S32768x128, .f32⟩
  | 33 => ⟨S32768x128, .f32⟩
  | 34 => ⟨S32768x128, .f32⟩
  | 35 => ⟨S1x32768x128, .f32⟩
  | 36 => ⟨S_, .i32⟩
  | 37 => ⟨S_, .i32⟩
  | 38 => ⟨S20x32768x128, .f32⟩
  | 39 => ⟨S1x32768x128, .f32⟩
  | 40 => ⟨S_, .i32⟩
  | 41 => ⟨S_, .i32⟩
  | 42 => ⟨S20x32768x128, .f32⟩
  | 43 => ⟨S_, .i32⟩
  | 44 => ⟨S_, .i32⟩
  | 45 => ⟨S32768x20x128, .f32⟩
  | 46 => ⟨S32768x20x128, .f32⟩
  | 47 => ⟨S20, .i32⟩
  | 48 => ⟨S1x20, .i32⟩
  | 49 => ⟨S32768x1, .i32⟩
  | 50 => ⟨S32768x20, .i32⟩
  | 51 => ⟨S32768x20, .i32⟩
  | 52 => ⟨S32768x20, .i1⟩
  | 53 => ⟨S32768x1, .i32⟩
  | 54 => ⟨S_, .i32⟩
  | 55 => ⟨S32768x1, .i32⟩
  | 56 => ⟨S32768x1, .i32⟩
  | 57 => ⟨S32768x20, .i32⟩
  | 58 => ⟨S32768x20, .i32⟩
  | 59 => ⟨S32768x20, .i32⟩
  | 60 => ⟨S32768x20, .i32⟩
  | 61 => ⟨S32768x20, .i32⟩
  | 62 => ⟨S32768x20x1, .i32⟩
  | 63 => ⟨S_, .i32⟩
  | 64 => ⟨S32768x20x1, .i32⟩
  | 65 => ⟨S32768x20x1, .i1⟩
  | 66 => ⟨S_, .i32⟩
  | 67 => ⟨S32768x20x1, .i32⟩
  | 68 => ⟨S32768x20x1, .i32⟩
  | 69 => ⟨S32768x20x1, .i32⟩
  | 70 => ⟨S32768x20x128, .f32⟩
  | 71 => ⟨S20, .i32⟩
  | 72 => ⟨S1x20, .i32⟩
  | 73 => ⟨S32768x1, .i32⟩
  | 74 => ⟨S32768x20, .i32⟩
  | 75 => ⟨S32768x20, .i32⟩
  | 76 => ⟨S32768x20, .i1⟩
  | 77 => ⟨S32768x20x256, .f32⟩
  | 78 => ⟨S32768x20x1, .i1⟩
  | 79 => ⟨S32768x20x1, .f32⟩
  | 80 => ⟨S32768x20x256, .f32⟩
  | 81 => ⟨S32768x20x256, .f32⟩
  | 82 => ⟨S256x128, .f32⟩
  | 83 => ⟨S32768x20x128, .f32⟩
  | 84 => ⟨S1x1x128, .f32⟩
  | 85 => ⟨S32768x20x128, .f32⟩
  | 86 => ⟨S32768x20x128, .f32⟩
  | 87 => ⟨S32768x20x128, .f32⟩
  | 88 => ⟨S128, .f32⟩
  | 89 => ⟨S32768x20, .f32⟩
  | 90 => ⟨S_, .f32⟩
  | 91 => ⟨S32768, .f32⟩
  | 92 => ⟨S_, .f32⟩
  | 93 => ⟨S32768, .f32⟩
  | 94 => ⟨S32768, .f32⟩
  | 95 => ⟨S32768x1, .f32⟩
  | 96 => ⟨S32768x20, .f32⟩
  | 97 => ⟨S32768x20, .f32⟩
  | 98 => ⟨S32768x20, .f32⟩
  | 99 => ⟨S_, .f32⟩
  | 100 => ⟨S32768, .f32⟩
  | 101 => ⟨S32768x1, .f32⟩
  | 102 => ⟨S32768x20, .f32⟩
  | 103 => ⟨S32768x20, .f32⟩
  | 104 => ⟨S32768x256, .f32⟩
  | _ => ⟨S32768x20, .i32⟩

abbrev hbmTy (i : Nat) : BufTy := match i / 128 with
  | 0 => hbmTy0_0 i
  | 1 => hbmTy0_1 i
  | _ => ⟨S32768x20, .i32⟩

abbrev bufTy : (tb : Table) → Fin (tcTables nBuf tb) → BufTy
  | .hbm, ⟨i, _⟩ => hbmTy i
  | _, _ => ⟨S32768x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_cst_3 : Ref sig .tc := ⟨.hbm, 63, rfl⟩
abbrev main_v36 : Ref sig .tc := ⟨.hbm, 64, rfl⟩
abbrev main_c_4 : Ref sig .tc := ⟨.hbm, 65, rfl⟩
abbrev main_v37_0 : Ref sig .tc := ⟨.hbm, 66, rfl⟩
abbrev main_v37_1 : Ref sig .tc := ⟨.hbm, 67, rfl⟩
abbrev main_v37_2 : Ref sig .tc := ⟨.hbm, 68, rfl⟩
abbrev main_v37_3 : Ref sig .tc := ⟨.hbm, 69, rfl⟩
abbrev main_v37_4 : Ref sig .tc := ⟨.hbm, 70, rfl⟩
abbrev main_v37_5 : Ref sig .tc := ⟨.hbm, 71, rfl⟩
abbrev main_v37_6 : Ref sig .tc := ⟨.hbm, 72, rfl⟩
abbrev main_v37_7 : Ref sig .tc := ⟨.hbm, 73, rfl⟩
abbrev main_v37_8 : Ref sig .tc := ⟨.hbm, 74, rfl⟩
abbrev main_v37_9 : Ref sig .tc := ⟨.hbm, 75, rfl⟩
abbrev main_v37_10 : Ref sig .tc := ⟨.hbm, 76, rfl⟩
abbrev main_while0c_c_19 : Ref sig .tc := ⟨.hbm, 77, rfl⟩
abbrev main_while0c_v86 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_v0 : Ref sig .tc := ⟨.hbm, 81, rfl⟩
abbrev main_while0b_v86 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_v0 : Ref sig .tc := ⟨.hbm, 85, rfl⟩
abbrev main_while0b_v87 : Ref sig .tc := ⟨.hbm, 86, rfl⟩
abbrev main_while0b_v88 : Ref sig .tc := ⟨.hbm, 87, rfl⟩
abbrev main_while0b_v89 : Ref sig .tc := ⟨.hbm, 88, rfl⟩
abbrev main_while0b_v90 : Ref sig .tc := ⟨.hbm, 89, rfl⟩
abbrev main_while0b_v91 : Ref sig .tc := ⟨.hbm, 90, rfl⟩
abbrev main_while0b_v92 : Ref sig .tc := ⟨.hbm, 91, rfl⟩
abbrev main_while0b_v93 : Ref sig .tc := ⟨.hbm, 92, rfl⟩
abbrev main_while0b_v94 : Ref sig .tc := ⟨.hbm, 93, rfl⟩
abbrev main_while0b_v95 : Ref sig .tc := ⟨.hbm, 94, rfl⟩
abbrev main_while0b_v96 : Ref sig .tc := ⟨.hbm, 95, rfl⟩
abbrev main_while0b_v97 : Ref sig .tc := ⟨.hbm, 96, rfl⟩
abbrev main_while0b_cst_19 : Ref sig .tc := ⟨.hbm, 97, rfl⟩
abbrev main_while0b_v98 : Ref sig .tc := ⟨.hbm, 98, rfl⟩
abbrev main_while0b_v99 : Ref sig .tc := ⟨.hbm, 99, rfl⟩
abbrev main_while0b_cst_20 : Ref sig .tc := ⟨.hbm, 100, rfl⟩
abbrev main_while0b_v100 : Ref sig .tc := ⟨.hbm, 101, rfl⟩
abbrev main_while0b_v101 : Ref sig .tc := ⟨.hbm, 102, rfl⟩
abbrev main_while0b_v102 : Ref sig .tc := ⟨.hbm, 103, rfl⟩
abbrev main_while0b_v103 : Ref sig .tc := ⟨.hbm, 104, rfl⟩
abbrev main_while0b_v104 : Ref sig .tc := ⟨.hbm, 105, rfl⟩
abbrev main_while0b_v105 : Ref sig .tc := ⟨.hbm, 106, rfl⟩
abbrev main_while0b_v106 : Ref sig .tc := ⟨.hbm, 107, rfl⟩
abbrev main_while0b_cst_21 : Ref sig .tc := ⟨.hbm, 108, rfl⟩
abbrev main_while0b_v107 : Ref sig .tc := ⟨.hbm, 109, rfl⟩
abbrev main_while0b_v108 : Ref sig .tc := ⟨.hbm, 110, rfl⟩
abbrev main_while0b_cst_22 : Ref sig .tc := ⟨.hbm, 111, rfl⟩
abbrev main_while0b_v109 : Ref sig .tc := ⟨.hbm, 112, rfl⟩
abbrev main_while0b_v110 : Ref sig .tc := ⟨.hbm, 113, rfl⟩
abbrev main_while0b_v111 : Ref sig .tc := ⟨.hbm, 114, rfl⟩
abbrev main_while0b_v112 : Ref sig .tc := ⟨.hbm, 115, rfl⟩
abbrev main_while0b_v113 : Ref sig .tc := ⟨.hbm, 116, rfl⟩
abbrev main_while0b_v114 : Ref sig .tc := ⟨.hbm, 117, rfl⟩
abbrev main_while0b_v115 : Ref sig .tc := ⟨.hbm, 118, rfl⟩
abbrev main_while0b_cst_23 : Ref sig .tc := ⟨.hbm, 119, rfl⟩
abbrev main_while0b_v116 : Ref sig .tc := ⟨.hbm, 120, rfl⟩
abbrev main_while0b_v117 : Ref sig .tc := ⟨.hbm, 121, rfl⟩
abbrev main_while0b_v118 : Ref sig .tc := ⟨.hbm, 122, rfl⟩
abbrev main_while0b_v119 : Ref sig .tc := ⟨.hbm, 123, rfl⟩
abbrev main_while0b_v120 : Ref sig .tc := ⟨.hbm, 124, rfl⟩
abbrev main_while0b_v121 : Ref sig .tc := ⟨.hbm, 125, rfl⟩
abbrev main_while0b_v122 : Ref sig .tc := ⟨.hbm, 126, rfl⟩
abbrev main_while0b_v123 : Ref sig .tc := ⟨.hbm, 127, rfl⟩
abbrev main_while0b_v124 : Ref sig .tc := ⟨.hbm, 128, rfl⟩
abbrev main_while0b_v125 : Ref sig .tc := ⟨.hbm, 129, rfl⟩
abbrev main_while0b_v126 : Ref sig .tc := ⟨.hbm, 130, rfl⟩
abbrev main_while0b_v127 : Ref sig .tc := ⟨.hbm, 131, rfl⟩
abbrev main_while0b_v128 : Ref sig .tc := ⟨.hbm, 132, rfl⟩
abbrev main_while0b_v129 : Ref sig .tc := ⟨.hbm, 133, rfl⟩
abbrev main_while0b_v130 : Ref sig .tc := ⟨.hbm, 134, rfl⟩
abbrev main_while0b_cst_24 : Ref sig .tc := ⟨.hbm, 135, rfl⟩
abbrev main_while0b_v131 : Ref sig .tc := ⟨.hbm, 136, rfl⟩
abbrev main_while0b_v132 : Ref sig .tc := ⟨.hbm, 137, rfl⟩
abbrev main_while0b_cst_25 : Ref sig .tc := ⟨.hbm, 138, rfl⟩
abbrev main_while0b_v133 : Ref sig .tc := ⟨.hbm, 139, rfl⟩
abbrev main_while0b_v134 : Ref sig .tc := ⟨.hbm, 140, rfl⟩
abbrev main_while0b_v135 : Ref sig .tc := ⟨.hbm, 141, rfl⟩
abbrev main_while0b_v136 : Ref sig .tc := ⟨.hbm, 142, rfl⟩
abbrev main_while0b_v137 : Ref sig .tc := ⟨.hbm, 143, rfl⟩
abbrev main_while0b_v138 : Ref sig .tc := ⟨.hbm, 144, rfl⟩
abbrev main_while0b_v139 : Ref sig .tc := ⟨.hbm, 145, rfl⟩
abbrev main_while0b_cst_26 : Ref sig .tc := ⟨.hbm, 146, rfl⟩
abbrev main_while0b_v140 : Ref sig .tc := ⟨.hbm, 147, rfl⟩
abbrev main_while0b_v141 : Ref sig .tc := ⟨.hbm, 148, rfl⟩
abbrev main_while0b_cst_27 : Ref sig .tc := ⟨.hbm, 149, rfl⟩
abbrev main_while0b_v142 : Ref sig .tc := ⟨.hbm, 150, rfl⟩
abbrev main_while0b_v143 : Ref sig .tc := ⟨.hbm, 151, rfl⟩
abbrev main_while0b_v144 : Ref sig .tc := ⟨.hbm, 152, rfl⟩
abbrev main_while0b_v145 : Ref sig .tc := ⟨.hbm, 153, rfl⟩
abbrev main_while0b_v146 : Ref sig .tc := ⟨.hbm, 154, rfl⟩
abbrev main_while0b_v147 : Ref sig .tc := ⟨.hbm, 155, rfl⟩
abbrev main_while0b_v148 : Ref sig .tc := ⟨.hbm, 156, rfl⟩
abbrev main_while0b_cst_28 : Ref sig .tc := ⟨.hbm, 157, rfl⟩
abbrev main_while0b_v149 : Ref sig .tc := ⟨.hbm, 158, rfl⟩
abbrev main_while0b_v150 : Ref sig .tc := ⟨.hbm, 159, rfl⟩
abbrev main_while0b_v151 : Ref sig .tc := ⟨.hbm, 160, rfl⟩
abbrev main_while0b_v152 : Ref sig .tc := ⟨.hbm, 161, rfl⟩
abbrev main_while0b_v153 : Ref sig .tc := ⟨.hbm, 162, rfl⟩
abbrev main_while0b_call4_v0 : Ref sig .tc := ⟨.hbm, 163, rfl⟩
abbrev main_while0b_call4_c : Ref sig .tc := ⟨.hbm, 164, rfl⟩
abbrev main_while0b_call4_c_0 : Ref sig .tc := ⟨.hbm, 165, rfl⟩
abbrev main_while0b_v154 : Ref sig .tc := ⟨.hbm, 166, rfl⟩
abbrev main_while0b_call5_v0 : Ref sig .tc := ⟨.hbm, 167, rfl⟩
abbrev main_while0b_call5_c : Ref sig .tc := ⟨.hbm, 168, rfl⟩
abbrev main_while0b_call5_c_0 : Ref sig .tc := ⟨.hbm, 169, rfl⟩
abbrev main_while0b_v155 : Ref sig .tc := ⟨.hbm, 170, rfl⟩
abbrev main_while0b_c_29 : Ref sig .tc := ⟨.hbm, 171, rfl⟩
abbrev main_while0b_v156 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_v41 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_v45 : Ref sig .tc := ⟨.hbm, 180, rfl⟩
abbrev main_v46 : Ref sig .tc := ⟨.hbm, 181, rfl⟩
abbrev main_c_5 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_call6_v0 : Ref sig .tc := ⟨.hbm, 188, rfl⟩
abbrev main_v52 : Ref sig .tc := ⟨.hbm, 189, rfl⟩
abbrev main_v53 : Ref sig .tc := ⟨.hbm, 190, rfl⟩
abbrev main_call7_c : Ref sig .tc := ⟨.hbm, 191, rfl⟩
abbrev main_call7_v0 : Ref sig .tc := ⟨.hbm, 192, rfl⟩
abbrev main_call7_v1 : Ref sig .tc := ⟨.hbm, 193, rfl⟩
abbrev main_call7_c_0 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_v71 : Ref sig .tc := ⟨.hbm, 215, rfl⟩
abbrev main_v72 : Ref sig .tc := ⟨.hbm, 216, rfl⟩
abbrev main_v73 : Ref sig .tc := ⟨.hbm, 217, rfl⟩
abbrev main_cst_6 : Ref sig .tc := ⟨.hbm, 218, rfl⟩
abbrev main_v74 : Ref sig .tc := ⟨.hbm, 219, rfl⟩
abbrev main_cst_7 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_cst_8 : Ref sig .tc := ⟨.hbm, 227, rfl⟩
abbrev main_v81 : Ref sig .tc := ⟨.hbm, 228, rfl⟩
abbrev main_v82 : Ref sig .tc := ⟨.hbm, 229, rfl⟩
abbrev main_v83 : Ref sig .tc := ⟨.hbm, 230, rfl⟩
abbrev main_v84 : Ref sig .tc := ⟨.hbm, 231, rfl⟩
abbrev main_v85 : Ref sig .tc := ⟨.hbm, 232, rfl⟩

abbrev nD : Nat := 1
abbrev τ : Topo := Topo.v7x

variable {F : FTy → Type} [FloatOps F]

abbrev main_while0_count : Scf.Loop 32 := ⟨0#32, 20#32, 1#32⟩
-- ==== Proof.KerV.lean ====
/-
  What the kernel's windows hold: a window's block is the argument's rows, or an argument transposed or joined.
-/
module

public import proofs.«01_k».proof.Proof.Gen.KernelIdeal.Frame
public import Idealize.ShloMosaic.Lib.Pipeline.ValueKit.Geometry
public import Idealize.ShloMosaic.Lib.Pointwise

@[expose] public section

noncomputable section

namespace Cert.Words

open Idealize.ShloMosaic Idealize.ShloMosaic.TcCoe Idealize.SL Idealize.SL.Sem Cert.KernelIdeal Cert.KernelIdeal.Gen

set_option maxRecDepth 16384

variable (m : (ℓ : Loc nD τ sig) → Buf (Elt Ideal) ℓ) (c : Dev nD) (t : Fin cfg0.N)

theorem idx_t : ∀ t : Fin cfg0.N, win0_0.index t = ![t.val, 0] ∧ win0_1.index t = ![t.val, 0] ∧ win0_12.index t = ![t.val, 0] := by
  decide +kernel

theorem idx_0 : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := by
  decide +kernel

theorem lt_N (r : Fin 1024) : t.val * 1024 + r.val < 32768 := by
  have := t.isLt; have : cfg0.N = 32 := N_0; omega

/-- A block's row in the whole array. -/
abbrev row (r : Fin 1024) : Fin 32768 := ⟨t.val * 1024 + r.val, lt_N t r⟩

theorem blk_0 (r : Fin 1024) (j : Fin 20) : (iblk m c 0 t : Vec Ideal S1024x20 .i32) (ix2 r j) =
    (m ((c : Thread nD τ).loc main_arg0) : Vec Ideal S32768x20 .i32) (ix2 (row t r) j) := by
  blk_ext [iblk, V, idx_t t]

theorem at_1 (r : Fin 1024) : (iblk m c 1 t : Vec Ideal S1024x1 .i32) (ix2 r 0) =
    (V m c main_call0_v0 : Vec Ideal S32768x1 .i32) (ix2 (row t r) 0) := by
  blk_ext [iblk, idx_t t]

theorem at_2 (i : Fin 128) (j : Fin 64) : (iblk m c 2 t : Vec Ideal S128x64 .f32) (ix2 i j) =
    (V m c main_arg2 : Vec Ideal S128x64 .f32) (ix2 i j) := by
  blk_ext [iblk, idx_0 t]

theorem at_3 (i : Fin 64) (j : Fin 768) : (iblk m c 3 t : Vec Ideal S64x768 .f32) (ix2 i j) =
    (V m c main_call0_v3 : Vec Ideal S64x768 .f32) (ix2 i j) := by
  blk_ext [iblk, idx_0 t]

theorem at_4 (i : Fin 128) (j : Fin 384) : (iblk m c 4 t : Vec Ideal S128x384 .f32) (ix2 i j) =
    (V m c main_call0_v6 : Vec Ideal S128x384 .f32) (ix2 i j) := by
  blk_ext [iblk, idx_0 t]

theorem at_5 (i : Fin 128) (j : Fin 384) : (iblk m c 5 t : Vec Ideal S128x384 .f32) (ix2 i j) =
    (V m c main_call0_v7 : Vec Ideal S128x384 .f32) (ix2 i j) := by
  blk_ext [iblk, idx_0 t]

theorem at_6 (i : Fin 1) (j : Fin 768) : (iblk m c 6 t : Vec Ideal S1x768 .f32) (ix2 i j) =
    (V m c main_call0_v5 : Vec Ideal S1x768 .f32) (ix2 i j) := by
  blk_ext [iblk, idx_0 t]

theorem at_7 (i : Fin 1) (j : Fin 384) : (iblk m c 7 t : Vec Ideal S1x384 .f32) (ix2 i j) =
    (V m c main_call0_v8 : Vec Ideal S1x384 .f32) (ix2 i j) := by
  blk_ext [iblk, idx_0 t]

theorem at_8 (i : Fin 1) (j : Fin 384) : (iblk m c 8 t : Vec Ideal S1x384 .f32) (ix2 i j) =
    (V m c main_call0_v9 : Vec Ideal S1x384 .f32) (ix2 i j) := by
  blk_ext [iblk, idx_0 t]

theorem at_9 (i : Fin 256) (j : Fin 128) : (iblk m c 9 t : Vec Ideal S256x128 .f32) (ix2 i j) =
    (V m c main_call0_v10 : Vec Ideal S256x128 .f32) (ix2 i j) := by
  blk_ext [iblk, idx_0 t]

theorem at_10 (i : Fin 1) (j : Fin 128) : (iblk m c 10 t : Vec Ideal S1x128 .f32) (ix2 i j) =
    (V m c main_call0_v11 : Vec Ideal S1x128 .f32) (ix2 i j) := by
  blk_ext [iblk, idx_0 t]

theorem at_11 (i : Fin 1) (j : Fin 128) : (iblk m c 11 t : Vec Ideal S1x128 .f32) (ix2 i j) =
    (V m c main_call0_v12 : Vec Ideal S1x128 .f32) (ix2 i j) := by
  blk_ext [iblk, idx_0 t]

theorem V_0 : (V m c main_call0_v0 : Vec Ideal S32768x1 .i32) =
    broadcastInDim S32768x1 ![0] bcast_S32768_S32768x1_0 (m ((c : Thread nD τ).loc main_arg1) : Vec Ideal S32768 .i32) := by
  entry_read; rfl

theorem V_3 : (V m c main_call0_v3 : Vec Ideal S64x768 .f32) = concatenate S64x768 1
    [⟨S64x384, transpose S64x384 [1, 0] (m ((c : Thread nD τ).loc main_arg3) : Vec Ideal S384x64 .f32) transposes_S384x64_S64x384_1_0⟩,
     ⟨S64x384, transpose S64x384 [1, 0] (m ((c : Thread nD τ).loc main_arg7) : Vec Ideal S384x64 .f32) transposes_S384x64_S64x384_1_0⟩]
    concatenates_S64x384_S64x384_S64x768_d1 := by
  entry_read; rfl

theorem V_5 : (V m c main_call0_v5 : Vec Ideal S1x768 .f32) = broadcastInDim S1x768 ![1] bcast_S768_S1x768_1
    (concatenate S768 0 [⟨S384, (m ((c : Thread nD τ).loc main_arg5) : Vec Ideal S384 .f32)⟩, ⟨S384, (m ((c : Thread nD τ).loc main_arg9) : Vec Ideal S384 .f32)⟩] concatenates_S384_S384_S768_d0) := by
  entry_read; rfl

theorem V_6 : (V m c main_call0_v6 : Vec Ideal S128x384 .f32) =
    transpose S128x384 [1, 0] (m ((c : Thread nD τ).loc main_arg4) : Vec Ideal S384x128 .f32) transposes_S384x128_S128x384_1_0 := by
  entry_read; rfl

theorem V_7 : (V m c main_call0_v7 : Vec Ideal S128x384 .f32) =
    transpose S128x384 [1, 0] (m ((c : Thread nD τ).loc main_arg8) : Vec Ideal S384x128 .f32) transposes_S384x128_S128x384_1_0 := by
  entry_read; rfl

theorem V_10 : (V m c main_call0_v10 : Vec Ideal S256x128 .f32) =
    transpose S256x128 [1, 0] (m ((c : Thread nD τ).loc main_arg11) : Vec Ideal S128x256 .f32) transposes_S128x256_S256x128_1_0 := by
  entry_read; rfl

theorem V_12 : (V m c main_call0_v12 : Vec Ideal S1x128 .f32) =
    transpose S1x128 [1, 0] (m ((c : Thread nD τ).loc main_arg13) : Vec Ideal S128x1 .f32) transposes_S128x1_S1x128_1_0 := by
  entry_read; rfl

theorem V_8 : (V m c main_call0_v8 : Vec Ideal S1x384 .f32) =
    broadcastInDim S1x384 ![1] bcast_S384_S1x384_1 (m ((c : Thread nD τ).loc main_arg6) : Vec Ideal S384 .f32) := by
  entry_read; rfl

theorem V_9 : (V m c main_call0_v9 : Vec Ideal S1x384 .f32) =
    broadcastInDim S1x384 ![1] bcast_S384_S1x384_1 (m ((c : Thread nD τ).loc main_arg10) : Vec Ideal S384 .f32) := by
  entry_read; rfl

theorem V_11 : (V m c main_call0_v11 : Vec Ideal S1x128 .f32) =
    broadcastInDim S1x128 ![1] bcast_S128_S1x128_1 (m ((c : Thread nD τ).loc main_arg12) : Vec Ideal S128 .f32) := by
  entry_read; rfl

theorem blk_1 (r : Fin 1024) : (iblk m c 1 t : Vec Ideal S1024x1 .i32) (ix2 r 0) =
    (m ((c : Thread nD τ).loc main_arg1) : Vec Ideal S32768 .i32) (ix1 (row t r)) := by
  rw [at_1, V_0]
  pointwise

theorem blk_3a (e : Fin 64) (j : Fin 384) : (iblk m c 3 t : Vec Ideal S64x768 .f32) (ix2 e ⟨j, by omega⟩) =
    (m ((c : Thread nD τ).loc main_arg3) : Vec Ideal S384x64 .f32) (ix2 j e) := by
  rw [at_3, V_3]
  pointwise

theorem blk_3b (e : Fin 64) (j : Fin 384) : (iblk m c 3 t : Vec Ideal S64x768 .f32) (ix2 e ⟨384 + j, by omega⟩) =
    (m ((c : Thread nD τ).loc main_arg7) : Vec Ideal S384x64 .f32) (ix2 j e) := by
  rw [at_3, V_3]
  pointwise

theorem blk_4 (k : Fin 128) (j : Fin 384) : (iblk m c 4 t : Vec Ideal S128x384 .f32) (ix2 k j) =
    (m ((c : Thread nD τ).loc main_arg4) : Vec Ideal S384x128 .f32) (ix2 j k) := by
  rw [at_4, V_6]
  pointwise

theorem blk_5 (k : Fin 128) (j : Fin 384) : (iblk m c 5 t : Vec Ideal S128x384 .f32) (ix2 k j) =
    (m ((c : Thread nD τ).loc main_arg8) : Vec Ideal S384x128 .f32) (ix2 j k) := by
  rw [at_5, V_7]
  pointwise

theorem blk_6a (j : Fin 384) : (iblk m c 6 t : Vec Ideal S1x768 .f32) (ix2 0 ⟨j, by omega⟩) =
    (m ((c : Thread nD τ).loc main_arg5) : Vec Ideal S384 .f32) (ix1 j) := by
  rw [at_6, V_5]
  pointwise

theorem blk_6b (j : Fin 384) : (iblk m c 6 t : Vec Ideal S1x768 .f32) (ix2 0 ⟨384 + j, by omega⟩) =
    (m ((c : Thread nD τ).loc main_arg9) : Vec Ideal S384 .f32) (ix1 j) := by
  rw [at_6, V_5]
  pointwise

theorem blk_7 (j : Fin 384) : (iblk m c 7 t : Vec Ideal S1x384 .f32) (ix2 0 j) =
    (m ((c : Thread nD τ).loc main_arg6) : Vec Ideal S384 .f32) (ix1 j) := by
  rw [at_7, V_8]
  pointwise

theorem blk_8 (j : Fin 384) : (iblk m c 8 t : Vec Ideal S1x384 .f32) (ix2 0 j) =
    (m ((c : Thread nD τ).loc main_arg10) : Vec Ideal S384 .f32) (ix1 j) := by
  rw [at_8, V_9]
  pointwise

theorem blk_9 (d : Fin 256) (k : Fin 128) : (iblk m c 9 t : Vec Ideal S256x128 .f32) (ix2 d k) =
    (m ((c : Thread nD τ).loc main_arg11) : Vec Ideal S128x256 .f32) (ix2 k d) := by
  rw [at_9, V_10]
  pointwise

theorem blk_10 (k : Fin 128) : (iblk m c 10 t : Vec Ideal S1x128 .f32) (ix2 0 k) =
    (m ((c : Thread nD τ).loc main_arg12) : Vec Ideal S128 .f32) (ix1 k) := by
  rw [at_10, V_11]
  pointwise

theorem blk_11 (k : Fin 128) : (iblk m c 11 t : Vec Ideal S1x128 .f32) (ix2 0 k) =
    (m ((c : Thread nD τ).loc main_arg13) : Vec Ideal S128x1 .f32) (ix2 k 0) := by
  rw [at_11, V_12]
  pointwise

end Cert.Words

end
-- ==== Proof.Body.lean ====
/-
  What one block of the kernel computes, written as two recursions over the characters: `fwd` (the forward state after a
  number of characters), `bwd` (the backward state after a number of characters from the last one), then the attention's
  exponentials, their running sum and the weighted running sums of the two halves.
-/
module

public import proofs.«01_k».proof.Proof.Gen.KernelIdeal.Frame

@[expose] public section

noncomputable section

namespace Cert.Words

open Idealize.ShloMosaic Idealize.SL.Sem Cert.KernelIdeal Cert.KernelIdeal.Gen

variable {F : FTy → Type} [FloatOps F]

theorem col_slices (t : ℕ) : S1024x20.Slices ![0, t % 20] S1024x1 :=
  (show ∀ k : Fin 20, S1024x20.Slices ![0, k.val] S1024x1 by decide) ⟨t % 20, Nat.mod_lt _ (by decide)⟩

/-- The indicator of character `t`. -/
def ind (x0 : Vec F S1024x20 .i32) (t : ℕ) : FVec F S1024x128 .bf16 :=
  truncf .bf16 (sitofp .f32 (extui 32 (cmpi .eq
    (broadcastTo S1024x128 (extractStridedSlice S1024x1 ![0, t % 20] x0 (col_slices t)) broadcasts_S1024x1_S1024x128)
    (iota .tc S1024x128 32 [1] iota_S1024x128_d1_w32)) natLt_1_32)) bitsLt_bf16_f32

/-- The projected embedding table of both directions. -/
def tab (x2 : Vec F S128x64 .f32) (x3 : Vec F S64x768 .f32) (x6 : Vec F S1x768 .f32) : FVec F S128x768 .bf16 :=
  truncf .bf16 (addf (matmul dot_S128x64_S64x768_S128x768_1_0_0_1_n_n none x2
      (shapeCast S64x768 x3 shapeCasts_S64x768_S64x768) (constant S128x768 .f32 0x00000000#32))
    (broadcastTo S128x768 (shapeCast S1x768 x6 shapeCasts_S1x768_S1x768) broadcasts_S1x768_S128x768)) bitsLt_bf16_f32

def tabF (x2 : Vec F S128x64 .f32) (x3 : Vec F S64x768 .f32) (x6 : Vec F S1x768 .f32) : FVec F S128x384 .bf16 :=
  extractStridedSlice S128x384 ![0, 0] (tab x2 x3 x6) slices_S128x768_o0_0_S128x384

def tabB (x2 : Vec F S128x64 .f32) (x3 : Vec F S64x768 .f32) (x6 : Vec F S1x768 .f32) : FVec F S128x384 .bf16 :=
  extractStridedSlice S128x384 ![0, 384] (tab x2 x3 x6) slices_S128x768_o0_384_S128x384

/-- The column of ones that brings the bias in. -/
def ones : FVec F S1024x128 .bf16 :=
  truncf .bf16 (sitofp .f32 (extui 32 (cmpi .eq (iota .tc S1024x128 32 [1] iota_S1024x128_d1_w32)
    (broadcast S1024x128 0#32)) natLt_1_32)) bitsLt_bf16_f32

/-- The recurrent weights with the bias as one more row. -/
def wts (w : Vec F S128x384 .f32) (b : Vec F S1x384 .f32) : FVec F S256x384 .bf16 :=
  truncf .bf16 (concatenate S256x384 0 [⟨S128x384, shapeCast S128x384 w shapeCasts_S128x384_S128x384⟩,
    ⟨S1x384, shapeCast S1x384 b shapeCasts_S1x384_S1x384⟩,
    ⟨S127x384, broadcast S127x384 (Scalar.ofBits .f32 0x00000000#32)⟩]
    concatenates_S128x384_S1x384_S127x384_S256x384_d0) bitsLt_bf16_f32

def zeros : FVec F S1024x128 .bf16 := broadcast S1024x128 (Scalar.ofBits .bf16 0x0000#16)

/-- Whether character `t` is within the word. -/
def msk (x1 : Vec F S1024x1 .i32) (t : ℕ) : FVec F S1024x1 .bf16 :=
  truncf .bf16 (sitofp .f32 (extui 32 (cmpi .sgt (shapeCast S1024x1 x1 shapeCasts_S1024x1_S1024x1)
    (broadcast S1024x1 (BitVec.ofNat 32 t))) natLt_1_32)) bitsLt_bf16_f32

/-- A character's projection: the indicator times the table. -/
def proj (o : FVec F S1024x128 .bf16) (tb : FVec F S128x384 .bf16) : FVec F S1024x384 .bf16 :=
  truncf .bf16 (matmul dot_S1024x128_S128x384_S1024x384_1_0_0_1_n_n none o tb (constant S1024x384 .f32 0x00000000#32))
    bitsLt_bf16_f32

/-- The state's projection, bias included. -/
def rec (h : FVec F S1024x128 .bf16) (w : FVec F S256x384 .bf16) : FVec F S1024x384 .bf16 :=
  truncf .bf16 (matmul dot_S1024x256_S256x384_S1024x384_1_0_0_1_n_n none
    (concatenate S1024x256 1 [⟨S1024x128, h⟩, ⟨S1024x128, ones⟩] concatenates_S1024x128_S1024x128_S1024x256_d1) w
    (constant S1024x384 .f32 0x00000000#32)) bitsLt_bf16_f32

/-- The two gates. -/
def gates (p q : FVec F S1024x384 .bf16) : FVec F S1024x256 .bf16 :=
  addf (mulf (broadcast S1024x256 (Scalar.ofBits .bf16 0x3F00#16))
    (tanh (mulf (broadcast S1024x256 (Scalar.ofBits .bf16 0x3F00#16))
      (addf (extractStridedSlice S1024x256 ![0, 0] p slices_S1024x384_o0_0_S1024x256)
        (extractStridedSlice S1024x256 ![0, 0] q slices_S1024x384_o0_0_S1024x256)))))
    (broadcast S1024x256 (Scalar.ofBits .bf16 0x3F00#16))

/-- The new value. -/
def cand (p q : FVec F S1024x384 .bf16) : FVec F S1024x128 .bf16 :=
  tanh (addf (extractStridedSlice S1024x128 ![0, 256] p slices_S1024x384_o0_256_S1024x128)
    (mulf (extractStridedSlice S1024x128 ![0, 0] (gates p q) slices_S1024x256_o0_0_S1024x128)
      (extractStridedSlice S1024x128 ![0, 256] q slices_S1024x384_o0_256_S1024x128)))

/-- One step of the recurrence. -/
def cell (p : FVec F S1024x384 .bf16) (h : FVec F S1024x128 .bf16) (w : FVec F S256x384 .bf16) : FVec F S1024x128 .bf16 :=
  addf (cand p (rec h w)) (mulf (extractStridedSlice S1024x128 ![0, 128] (gates p (rec h w)) slices_S1024x256_o0_128_S1024x128)
    (subf h (cand p (rec h w))))

section
variable (x0 : Vec F S1024x20 .i32) (x1 : Vec F S1024x1 .i32) (x2 : Vec F S128x64 .f32) (x3 : Vec F S64x768 .f32)
  (x4 : Vec F S128x384 .f32) (x5 : Vec F S128x384 .f32) (x6 : Vec F S1x768 .f32) (x7 : Vec F S1x384 .f32)
  (x8 : Vec F S1x384 .f32) (x9 : Vec F S256x128 .f32) (x10 : Vec F S1x128 .f32) (x11 : Vec F S1x128 .f32)

/-- The forward state after `n` characters. -/
def fwd : ℕ → FVec F S1024x128 .bf16
  | 0 => zeros
  | n + 1 => cell (proj (ind x0 n) (tabF x2 x3 x6)) (fwd n) (wts x4 x7)

/-- The backward state after the last `n` characters. -/
def bwd : ℕ → FVec F S1024x128 .bf16
  | 0 => zeros
  | n + 1 => addf (bwd n) (mulf (broadcastTo S1024x128 (msk x1 (19 - n)) broadcasts_S1024x1_S1024x128)
      (subf (cell (proj (ind x0 (19 - n)) (tabB x2 x3 x6)) (bwd n) (wts x5 x8)) (bwd n)))

def outF (t : ℕ) : FVec F S1024x128 .bf16 :=
  mulf (broadcastTo S1024x128 (msk x1 t) broadcasts_S1024x1_S1024x128) (fwd x0 x2 x3 x4 x6 x7 (t + 1))

def outB (t : ℕ) : FVec F S1024x128 .bf16 := bwd x0 x1 x2 x3 x5 x6 x8 (20 - t)

/-- The exponential of a character's score. -/
def expo (a b : FVec F S1024x128 .bf16) : FVec F S1024x1 .f32 :=
  exp (shapeCast S1024x1 (multiReduction .add [1] S1024
    (mulf (tanh (addf (matmul dot_S1024x256_S256x128_S1024x128_1_0_0_1_n_n none
        (concatenate S1024x256 1 [⟨S1024x128, a⟩, ⟨S1024x128, b⟩] concatenates_S1024x128_S1024x128_S1024x256_d1)
        (truncf .bf16 (shapeCast S256x128 x9 shapeCasts_S256x128_S256x128) bitsLt_bf16_f32)
        (constant S1024x128 .f32 0x00000000#32))
      (broadcastTo S1024x128 (shapeCast S1x128 x10 shapeCasts_S1x128_S1x128) broadcasts_S1x128_S1024x128)))
      (broadcastTo S1024x128 (shapeCast S1x128 x11 shapeCasts_S1x128_S1x128) broadcasts_S1x128_S1024x128))
    0x00000000#32 reduces_S1024x128_S1024 (.inl rfl) rfl) shapeCasts_S1024_S1024x1)

def es (t : ℕ) : FVec F S1024x1 .f32 := expo x9 x10 x11 (outF x0 x1 x2 x3 x4 x6 x7 t) (outB x0 x1 x2 x3 x5 x6 x8 t)

/-- The running sum of the exponentials. -/
def den : ℕ → FVec F S1024x1 .f32
  | 0 => es x0 x1 x2 x3 x4 x5 x6 x7 x8 x9 x10 x11 0
  | n + 1 => addf (den n) (es x0 x1 x2 x3 x4 x5 x6 x7 x8 x9 x10 x11 (n + 1))

def inv : FVec F S1024x1 .f32 :=
  divf (broadcast S1024x1 (Scalar.ofBits .f32 0x3F800000#32)) (den x0 x1 x2 x3 x4 x5 x6 x7 x8 x9 x10 x11 19)

/-- An output weighted by its attention. -/
def wtd (o : FVec F S1024x128 .bf16) (t : ℕ) : FVec F S1024x128 .f32 :=
  mulf (extf .f32 o bitsLt_bf16_f32) (broadcastTo S1024x128 (mulf (es x0 x1 x2 x3 x4 x5 x6 x7 x8 x9 x10 x11 t)
    (inv x0 x1 x2 x3 x4 x5 x6 x7 x8 x9 x10 x11)) broadcasts_S1024x1_S1024x128)

def accF : ℕ → FVec F S1024x128 .f32
  | 0 => wtd x0 x1 x2 x3 x4 x5 x6 x7 x8 x9 x10 x11 (outF x0 x1 x2 x3 x4 x6 x7 0) 0
  | n + 1 => addf (accF n) (wtd x0 x1 x2 x3 x4 x5 x6 x7 x8 x9 x10 x11 (outF x0 x1 x2 x3 x4 x6 x7 (n + 1)) (n + 1))

def accB : ℕ → FVec F S1024x128 .f32
  | 0 => wtd x0 x1 x2 x3 x4 x5 x6 x7 x8 x9 x10 x11 (outB x0 x1 x2 x3 x5 x6 x8 0) 0
  | n + 1 => addf (accB n) (wtd x0 x1 x2 x3 x4 x5 x6 x7 x8 x9 x10 x11 (outB x0 x1 x2 x3 x5 x6 x8 (n + 1)) (n + 1))

/-- The block's result. -/
def res : FVec F S1024x256 .f32 :=
  concatenate S1024x256 1 [⟨S1024x128, accF x0 x1 x2 x3 x4 x5 x6 x7 x8 x9 x10 x11 19⟩,
    ⟨S1024x128, accB x0 x1 x2 x3 x4 x5 x6 x7 x8 x9 x10 x11 19⟩] concatenates_S1024x128_S1024x128_S1024x256_d1

end

end Cert.Words

end
-- ==== Proof.Spec.lean ====
/-
  The mathematics of one word: the gated recurrent cell, the two runs over the characters and the attention, on extended
  reals, and the identities that take the kernel's forms to the reference's.
-/
module

public import Idealize.ShloMosaic.Lib.Pointwise
public import Idealize.ShloMosaic.PureOps.Ideal.Laws

@[expose] public section

noncomputable section

namespace Cert.Words.Spec

open Idealize.ShloMosaic

/-- The logistic function, as the quotient. -/
def gate (x : EReal) : EReal := Ideal.div 1 (1 + Ideal.exp (-x))

/-- The state's projection. -/
def hp (W : Fin 384 → Fin 128 → EReal) (b : Fin 384 → EReal) (h : Fin 128 → EReal) (j : Fin 384) : EReal :=
  ∑ k, h k * W j k + b j

/-- The candidate value. -/
def new (W : Fin 384 → Fin 128 → EReal) (b x : Fin 384 → EReal) (h : Fin 128 → EReal) (j : Fin 128) : EReal :=
  Ideal.tanh (x ⟨256 + j, by omega⟩ + gate (x ⟨j, by omega⟩ + hp W b h ⟨j, by omega⟩) * hp W b h ⟨256 + j, by omega⟩)

/-- The update gate. -/
def upd (W : Fin 384 → Fin 128 → EReal) (b x : Fin 384 → EReal) (h : Fin 128 → EReal) (j : Fin 128) : EReal :=
  gate (x ⟨128 + j, by omega⟩ + hp W b h ⟨128 + j, by omega⟩)

/-- One step of the recurrence. -/
def cell (W : Fin 384 → Fin 128 → EReal) (b x : Fin 384 → EReal) (h : Fin 128 → EReal) (j : Fin 128) : EReal :=
  (1 - upd W b x h j) * new W b x h j + upd W b x h j * h j

/-- The state after `n` steps. -/
def run (W : Fin 384 → Fin 128 → EReal) (b : Fin 384 → EReal) (x : ℕ → Fin 384 → EReal) : ℕ → Fin 128 → EReal
  | 0 => fun _ => 0
  | n + 1 => cell W b (x n) (run W b x n)

/-- The backward state after the last `n` characters, held at zero outside the word. -/
def back (W : Fin 384 → Fin 128 → EReal) (b : Fin 384 → EReal) (x : ℕ → Fin 384 → EReal) (len : ℕ) : ℕ → Fin 128 → EReal
  | 0 => fun _ => 0
  | n + 1 => fun j => back W b x len n j + (if 19 - n < len then 1 else 0) *
      (cell W b (x (19 - n)) (back W b x len n) j - back W b x len n j)

/-- A position reversed within the word; the padding stays where it is. -/
def rev (len t : ℕ) : ℕ := if t < len then len - 1 - t else t

/-- A character's projection. -/
def xp (E : Fin 128 → Fin 64 → EReal) (W : Fin 384 → Fin 64 → EReal) (b : Fin 384 → EReal) (c : Fin 128) (j : Fin 384) : EReal :=
  ∑ e, E c e * W j e + b j

theorem exp_coe (r : ℝ) : Ideal.exp (r : EReal) = (Real.exp r : EReal) := rfl
theorem tanh_coe (r : ℝ) : Ideal.tanh (r : EReal) = (Real.tanh r : EReal) := rfl

/-- The value of one half. -/
theorem half : Ideal.ofBits FTy.bf16 16128#16 = ((1 / 2 : ℝ) : EReal) := by
  show Ideal.ieee 8 7 16128#16 = _
  unfold Ideal.ieee
  norm_num [BitVec.extractLsb', Nat.shiftRight_eq_div_pow, zpow_neg]

theorem one : Ideal.ofBits FTy.f32 1065353216#32 = 1 := by
  show Ideal.ieee 8 23 1065353216#32 = _
  unfold Ideal.ieee
  norm_num [BitVec.extractLsb', Nat.shiftRight_eq_div_pow, zpow_neg]

theorem least : Ideal.ofBits FTy.f32 4286578688#32 = ⊥ := by
  show Ideal.ieee 8 23 4286578688#32 = _
  unfold Ideal.ieee
  norm_num [BitVec.extractLsb', Nat.shiftRight_eq_div_pow, zpow_neg]

theorem zero16 : Ideal.ofBits FTy.bf16 0#16 = 0 := by
  show Ideal.ieee 8 7 0#16 = _
  unfold Ideal.ieee
  norm_num [BitVec.extractLsb', Nat.shiftRight_eq_div_pow, zpow_neg]

theorem real_gate (x : ℝ) : 1 / (1 + Real.exp (-x)) = 1 / 2 * Real.tanh (1 / 2 * x) + 1 / 2 := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have p := Real.exp_pos (1 / 2 * x)
  have q := Real.exp_pos (-(1 / 2 * x))
  rw [h1]
  generalize Real.exp (1 / 2 * x) = a at *
  generalize Real.exp (-(1 / 2 * x)) = c at *
  field_simp
  linear_combination (-2 * c) * h2

theorem gate_coe (r : ℝ) : gate (r : EReal) = ((1 / (1 + Real.exp (-r)) : ℝ) : EReal) := by
  have p : (1 + Real.exp (-r)) ≠ 0 := by have := Real.exp_pos (-r); positivity
  unfold gate
  rw [← EReal.coe_neg, exp_coe, ← EReal.coe_one, ← EReal.coe_add, Ideal.div_coe p, ← EReal.coe_mul, one_mul]

theorem gate_top : gate ⊤ = 1 := by
  unfold gate
  rw [EReal.neg_top]
  show Ideal.div 1 (1 + 0) = 1
  rw [add_zero, ← EReal.coe_one, Ideal.div_coe one_ne_zero]; simp

theorem gate_bot : gate ⊥ = 0 := by
  unfold gate
  rw [EReal.neg_bot]
  show Ideal.div 1 (1 + ⊤) = 0
  have : (1 : EReal) + ⊤ = ⊤ := by rfl
  rw [this]
  unfold Ideal.div
  simp

/-- The kernel's form of a gate. -/
theorem gate_half (x : EReal) : ((1 / 2 : ℝ) : EReal) * Ideal.tanh (((1 / 2 : ℝ) : EReal) * x) + ((1 / 2 : ℝ) : EReal) = gate x := by
  have hp : (0 : ℝ) < 1 / 2 := by norm_num
  induction x using EReal.rec with
  | bot =>
    rw [EReal.coe_mul_bot_of_pos hp, gate_bot]
    show ((1 / 2 : ℝ) : EReal) * ((-1 : ℝ) : EReal) + _ = _
    rw [← EReal.coe_mul, ← EReal.coe_add]; norm_num
  | coe r => rw [← EReal.coe_mul, tanh_coe, ← EReal.coe_mul, ← EReal.coe_add, gate_coe, real_gate]
  | top =>
    rw [EReal.coe_mul_top_of_pos hp, gate_top]
    show ((1 / 2 : ℝ) : EReal) * ((1 : ℝ) : EReal) + _ = _
    rw [← EReal.coe_mul, ← EReal.coe_add]; norm_num

theorem gate_fin (x : EReal) : ∃ r : ℝ, gate x = r := by
  induction x using EReal.rec with
  | bot => exact ⟨0, gate_bot⟩
  | coe r => exact ⟨_, gate_coe r⟩
  | top => exact ⟨1, gate_top⟩

theorem tanh_fin (x : EReal) : ∃ r : ℝ, Ideal.tanh x = r := by
  induction x using EReal.rec with
  | bot => exact ⟨-1, rfl⟩
  | coe r => exact ⟨_, rfl⟩
  | top => exact ⟨1, rfl⟩

/-- The kernel's form of the step: the new value plus the gated difference. -/
theorem mix (n z h : ℝ) : (n : EReal) + z * (h - n) = (1 - z) * n + z * h := by
  rw [← EReal.coe_one]
  simp only [← EReal.coe_sub, ← EReal.coe_mul, ← EReal.coe_add]
  congr 1; ring

theorem cell_mix {W : Fin 384 → Fin 128 → EReal} {b x : Fin 384 → EReal} {h : Fin 128 → EReal} {j : Fin 128}
    (hh : ∃ r : ℝ, h j = r) : new W b x h j + upd W b x h j * (h j - new W b x h j) = cell W b x h j := by
  obtain ⟨r, hr⟩ := hh
  obtain ⟨n, hn⟩ : ∃ n : ℝ, new W b x h j = n := tanh_fin _
  obtain ⟨z, hz⟩ : ∃ z : ℝ, upd W b x h j = z := gate_fin _
  unfold cell
  rw [hr, hn, hz, mix]

theorem cell_fin {W : Fin 384 → Fin 128 → EReal} {b x : Fin 384 → EReal} {h : Fin 128 → EReal} {j : Fin 128}
    (hh : ∃ r : ℝ, h j = r) : ∃ r : ℝ, cell W b x h j = r := by
  obtain ⟨r, hr⟩ := hh
  obtain ⟨n, hn⟩ : ∃ n : ℝ, new W b x h j = n := tanh_fin _
  obtain ⟨z, hz⟩ : ∃ z : ℝ, upd W b x h j = z := gate_fin _
  unfold cell
  rw [hr, hn, hz, ← EReal.coe_one]
  exact ⟨(1 - z) * n + z * r, by simp only [← EReal.coe_sub, ← EReal.coe_mul, ← EReal.coe_add]⟩

theorem run_fin (W : Fin 384 → Fin 128 → EReal) (b : Fin 384 → EReal) (x : ℕ → Fin 384 → EReal) (n : ℕ) (j : Fin 128) :
    ∃ r : ℝ, run W b x n j = r := by
  induction n generalizing j with
  | zero => exact ⟨0, rfl⟩
  | succ n ih => exact cell_fin (ih j)

theorem run_congr (W : Fin 384 → Fin 128 → EReal) (b : Fin 384 → EReal) {x y : ℕ → Fin 384 → EReal} {N : ℕ}
    (h : ∀ n < N, x n = y n) : ∀ n ≤ N, run W b x n = run W b y n
  | 0, _ => rfl
  | n + 1, hn => by
    show cell W b (x n) (run W b x n) = cell W b (y n) (run W b y n)
    rw [h n hn, run_congr W b h n (by omega)]

/-- The masked backward run is zero before the word's last character and the run over the reversed word from there. -/
theorem back_eq (W : Fin 384 → Fin 128 → EReal) (b : Fin 384 → EReal) (x : ℕ → Fin 384 → EReal) {len : ℕ} (hl : len ≤ 20)
    (n : ℕ) (hn : n ≤ 20) : back W b x len n = run W b (fun k => x (rev len k)) (n - (20 - len)) := by
  induction n with
  | zero => rw [Nat.zero_sub]; rfl
  | succ n ih =>
    funext j
    have ih := ih (by omega)
    show back W b x len n j + (if 19 - n < len then 1 else 0) *
      (cell W b (x (19 - n)) (back W b x len n) j - back W b x len n j) = _
    rw [ih]
    obtain ⟨r, hr⟩ := run_fin W b (fun k => x (rev len k)) (n - (20 - len)) j
    by_cases h : 19 - n < len
    · have e : n + 1 - (20 - len) = (n - (20 - len)) + 1 := by omega
      have e' : x (19 - n) = x (rev len (n - (20 - len))) := by
        unfold rev; rw [if_pos (by omega)]; congr 1; omega
      rw [if_pos h, e, e', one_mul]
      show _ = cell W b (x (rev len (n - (20 - len)))) _ j
      obtain ⟨s, hs⟩ := cell_fin (W := W) (b := b) (x := x (rev len (n - (20 - len)))) ⟨r, hr⟩
      rw [hs, hr, ← EReal.coe_sub, ← EReal.coe_add]; congr 1; ring
    · have e : n + 1 - (20 - len) = n - (20 - len) := by omega
      rw [if_neg h, e, zero_mul, add_zero]

theorem back_fin (W : Fin 384 → Fin 128 → EReal) (b : Fin 384 → EReal) (x : ℕ → Fin 384 → EReal) {len : ℕ} (hl : len ≤ 20)
    (n : ℕ) (hn : n ≤ 20) (j : Fin 128) : ∃ r : ℝ, back W b x len n j = r := by
  rw [back_eq W b x hl n hn]; exact run_fin _ _ _ _ _

/-- The kernel's backward output at `t` is the reference's, masked. -/
theorem back_out (W : Fin 384 → Fin 128 → EReal) (b : Fin 384 → EReal) (x : ℕ → Fin 384 → EReal) {len : ℕ} (hl : len ≤ 20)
    (t : ℕ) (ht : t < 20) (j : Fin 128) :
    back W b x len (20 - t) j = run W b (fun k => x (rev len k)) (rev len t + 1) j * (if t < len then 1 else 0) := by
  rw [back_eq W b x hl _ (by omega)]
  by_cases h : t < len
  · rw [if_pos h, mul_one]; unfold rev; rw [if_pos h]; congr 1; omega
  · rw [if_neg h, mul_zero, show 20 - t - (20 - len) = 0 by omega]; rfl

end Cert.Words.Spec

end
-- ==== Proof.KerAt.lean ====
/-
  The kernel's block read at a row: each definition of `Body` at one entry is the word's mathematics of `Spec`.
-/
module

public import proofs.«01_k».proof.Proof.Body
public import proofs.«01_k».proof.Proof.Spec
public import Idealize.ShloMosaic.Lib.Pointwise

@[expose] public section

noncomputable section

namespace Cert.Words

open Idealize.ShloMosaic Idealize.SL.Sem Cert.KernelIdeal Cert.KernelIdeal.Gen

set_option maxRecDepth 16384

/-- A truth value as a number. -/
theorem truth (b : BitVec 1) :
    (FloatOps.sitofp (F := Idealize.ShloMosaic.Ideal) FTy.f32 (BitVec.setWidth 32 b) : EReal) = if b = 1#1 then 1 else 0 := by
  have h : b = 0#1 ∨ b = 1#1 := by
    have := b.isLt; rcases (show b.toNat = 0 ∨ b.toNat = 1 by omega) with h | h
    · exact Or.inl (BitVec.eq_of_toNat_eq h)
    · exact Or.inr (BitVec.eq_of_toNat_eq h)
  rcases h with rfl | rfl
  · show (((0 : ℤ) : ℝ) : EReal) = _; simp
  · show (((1 : ℤ) : ℝ) : EReal) = _; simp

theorem truth_eq (x y : BitVec 32) : IntOp.cmpi CmpIPredicate.eq x y = 1#1 ↔ x = y := by
  by_cases h : x = y
  · simp [IntOp.cmpi, h]
  · have e : (x == y) = false := by simpa using h
    simp [IntOp.cmpi, e, h]

theorem truth_sgt (x y : BitVec 32) : IntOp.cmpi CmpIPredicate.sgt x y = 1#1 ↔ y.toInt < x.toInt := by
  by_cases h : y.toInt < x.toInt <;> simp [IntOp.cmpi, BitVec.slt, h]

theorem nat_eq {a b : ℕ} (ha : a < 128) (hb : b < 128) : BitVec.ofNat 32 a = BitVec.ofNat 32 b ↔ a = b :=
  ⟨fun h => by have := congrArg BitVec.toNat h; simp only [BitVec.toNat_ofNat] at this; omega, fun h => by rw [h]⟩

theorem toInt_small {a : ℕ} (ha : a < 128) : (BitVec.ofNat 32 a).toInt = a := by
  rw [BitVec.toInt_eq_toNat_cond, BitVec.toNat_ofNat]; split <;> omega

section
variable (x0 : Vec Ideal S1024x20 .i32) (x1 : Vec Ideal S1024x1 .i32) (x2 : Vec Ideal S128x64 .f32) (x3 : Vec Ideal S64x768 .f32)
  (x4 : Vec Ideal S128x384 .f32) (x5 : Vec Ideal S128x384 .f32) (x6 : Vec Ideal S1x768 .f32) (x7 : Vec Ideal S1x384 .f32)
  (x8 : Vec Ideal S1x384 .f32) (x9 : Vec Ideal S256x128 .f32) (x10 : Vec Ideal S1x128 .f32) (x11 : Vec Ideal S1x128 .f32)

/-- A character's forward projection, of the block's arrays. -/
def xF (c : Fin 128) : Fin 384 → EReal :=
  Spec.xp (fun c e => x2 (ix2 c e)) (fun j e => x3 (ix2 e ⟨j, by omega⟩)) (fun j => x6 (ix2 0 ⟨j, by omega⟩)) c

/-- A character's backward projection, of the block's arrays. -/
def xB (c : Fin 128) : Fin 384 → EReal :=
  Spec.xp (fun c e => x2 (ix2 c e)) (fun j e => x3 (ix2 e ⟨384 + j, by omega⟩)) (fun j => x6 (ix2 0 ⟨384 + j, by omega⟩)) c

theorem tabF_at (c : Fin 128) (j : Fin 384) : tabF x2 x3 x6 (ix2 c j) = xF x2 x3 x6 c j := by
  pointwise [tabF, tab]; rfl

theorem tabB_at (c : Fin 128) (j : Fin 384) : tabB x2 x3 x6 (ix2 c j) = xB x2 x3 x6 c j := by
  pointwise [tabB, tab]; rfl

theorem proj_at (tb : FVec Ideal S128x384 .bf16) (t : ℕ) (r : Fin 1024) (c : Fin 128)
    (hc : x0 (ix2 r ⟨t % 20, Nat.mod_lt _ (by decide)⟩) = BitVec.ofNat 32 c) (j : Fin 384) :
    proj (ind x0 t) tb (ix2 r j) = tb (ix2 c j) := by
  pointwise [proj, ind]
  rw [Finset.sum_eq_single c]
  · rw [hc, truth, if_pos ((truth_eq _ _).2 rfl), one_mul]
  · intro x _ hx
    rw [hc, truth, if_neg (fun h => hx (Fin.ext ((nat_eq c.isLt x.isLt).1 ((truth_eq _ _).1 h)).symm)), zero_mul]
  · intro h; exact absurd (Finset.mem_univ _) h

theorem rec_at (h : FVec Ideal S1024x128 .bf16) (w : Vec Ideal S128x384 .f32) (b : Vec Ideal S1x384 .f32) (r : Fin 1024)
    (j : Fin 384) : rec h (wts w b) (ix2 r j) =
      Spec.hp (fun j k => w (ix2 k j)) (fun j => b (ix2 0 j)) (fun k => h (ix2 r k)) j := by
  pointwise [rec, wts, ones]
  unfold Spec.hp
  refine (Fin.sum_univ_add (a := 128) (b := 128) _).trans ?_
  refine congrArg₂ (· + ·) (Finset.sum_congr rfl fun k _ => ?_) ?_
  · rw [dif_pos (show (Fin.castAdd 128 k).val < 128 from k.isLt), dif_pos (show (Fin.castAdd 128 k).val < 128 from k.isLt)]
    rfl
  · rw [Finset.sum_eq_single 0]
    · rw [dif_neg (by simp), dif_neg (by simp), dif_pos (by simp), truth, if_pos ((truth_eq _ _).2 (by simp)), one_mul]
      rfl
    · intro x _ hx
      have hx : ¬ x.val = 0 := fun h => hx (Fin.ext h)
      rw [dif_neg (by simp), dif_neg (by simp), dif_neg (by simp; exact fun h => hx (by rw [h]; rfl)), mul_zero]
    · intro h; exact absurd (Finset.mem_univ _) h

theorem gates_at (p q : FVec Ideal S1024x384 .bf16) (r : Fin 1024) (j : Fin 256) :
    gates p q (ix2 r j) = Spec.gate (p (ix2 r ⟨j, by omega⟩) + q (ix2 r ⟨j, by omega⟩)) := by
  pointwise [gates]
  rw [Spec.half, Spec.gate_half]

theorem cand_at (p q : FVec Ideal S1024x384 .bf16) (r : Fin 1024) (j : Fin 128) :
    cand p q (ix2 r j) = Ideal.tanh (p (ix2 r ⟨256 + j, by omega⟩) +
      Spec.gate (p (ix2 r ⟨j, by omega⟩) + q (ix2 r ⟨j, by omega⟩)) * q (ix2 r ⟨256 + j, by omega⟩)) := by
  pointwise [cand]
  rw [gates_at]

theorem cell_at (p : FVec Ideal S1024x384 .bf16) (h : FVec Ideal S1024x128 .bf16) (w : Vec Ideal S128x384 .f32)
    (b : Vec Ideal S1x384 .f32) (r : Fin 1024) (x : Fin 384 → EReal) (hx : ∀ j, p (ix2 r j) = x j)
    (s : Fin 128 → EReal) (hs : ∀ j, h (ix2 r j) = s j) (hf : ∀ j, ∃ a : ℝ, s j = a) (j : Fin 128) :
    cell p h (wts w b) (ix2 r j) = Spec.cell (fun j k => w (ix2 k j)) (fun j => b (ix2 0 j)) x s j := by
  rw [← Spec.cell_mix (hf j)]
  have e : (fun k => h (ix2 r k)) = s := funext hs
  pointwise [cell]
  rw [cand_at, gates_at]
  simp only [rec_at, e, hx, hs]
  rfl

theorem zeros_at (r : Fin 1024) (j : Fin 128) : zeros (F := Idealize.ShloMosaic.Ideal) (ix2 r j) = 0 := by
  pointwise [zeros]

theorem msk_at (t : ℕ) (ht : t < 20) (r : Fin 1024) :
    msk (F := Idealize.ShloMosaic.Ideal) x1 t (ix2 r 0) = if t < (x1 (ix2 r 0)).toInt.toNat then 1 else 0 := by
  pointwise [msk]
  rw [truth]
  refine if_congr ?_ rfl rfl
  rw [truth_sgt, toInt_small (by omega)]
  omega

variable (r : Fin 1024) (ch : ℕ → Fin 128) (hc : ∀ t, t < 20 → x0 (ix2 r ⟨t % 20, Nat.mod_lt _ (by decide)⟩) = BitVec.ofNat 32 (ch t))

include hc in
theorem fwd_at (n : ℕ) (hn : n ≤ 20) (j : Fin 128) : fwd x0 x2 x3 x4 x6 x7 n (ix2 r j) =
    Spec.run (fun j k => x4 (ix2 k j)) (fun j => x7 (ix2 0 j)) (fun t => xF x2 x3 x6 (ch t)) n j := by
  induction n generalizing j with
  | zero => exact zeros_at r j
  | succ n ih =>
    exact cell_at _ _ x4 x7 r _ (fun j => (proj_at x0 _ n r _ (hc n (by omega)) j).trans (tabF_at x2 x3 x6 _ j)) _
      (ih (by omega)) (Spec.run_fin _ _ _ _) j

include hc in
theorem bwd_at (hl : (x1 (ix2 r 0)).toInt.toNat ≤ 20) (n : ℕ) (hn : n ≤ 20) (j : Fin 128) :
    bwd x0 x1 x2 x3 x5 x6 x8 n (ix2 r j) =
    Spec.back (fun j k => x5 (ix2 k j)) (fun j => x8 (ix2 0 j)) (fun t => xB x2 x3 x6 (ch t)) (x1 (ix2 r 0)).toInt.toNat n j := by
  induction n generalizing j with
  | zero => exact zeros_at r j
  | succ n ih =>
    have ih := ih (by omega)
    have hcell := cell_at _ _ x5 x8 r _ (fun j => (proj_at x0 _ (19 - n) r _ (hc (19 - n) (by omega)) j).trans (tabB_at x2 x3 x6 _ j)) _
      ih (Spec.back_fin _ _ _ hl n (by omega)) j
    pointwise [bwd]
    rw [msk_at x1 (19 - n) (by omega), ih, hcell]
    rfl

end

end Cert.Words

end
-- ==== Proof.Attn.lean ====
/-
  The attention of one word on extended reals: the scores, the softmax with and without the maximum taken out, and the
  weighted sum.
-/
module

public import proofs.«01_k».proof.Proof.Spec

@[expose] public section

noncomputable section

namespace Cert.Words.Spec

open Idealize.ShloMosaic

/-- A character's output: the two directions' halves side by side. -/
def glue (a b : Fin 128 → EReal) (d : Fin 256) : EReal :=
  if h : d.val < 128 then a ⟨d, h⟩ else b ⟨d - 128, by omega⟩

/-- A character's score. -/
def score (Wp : Fin 128 → Fin 256 → EReal) (bp ctx : Fin 128 → EReal) (o : Fin 256 → EReal) : EReal :=
  ∑ c, Ideal.tanh (∑ d, o d * Wp c d + bp c) * ctx c

/-- The greatest score. -/
def top (s : Fin 20 → EReal) : EReal := max ⊥ (Finset.univ.fold max ⊥ s)

/-- The attention weights, the maximum taken out. -/
def att (s : Fin 20 → EReal) (t : Fin 20) : EReal :=
  Ideal.div (Ideal.exp (s t - top s)) (∑ u, Ideal.exp (s u - top s))

/-- The word's result: its outputs weighted by the attention. -/
def pooled (Wp : Fin 128 → Fin 256 → EReal) (bp ctx : Fin 128 → EReal) (o : Fin 20 → Fin 256 → EReal) (d : Fin 256) : EReal :=
  ∑ t, att (fun t => score Wp bp ctx (o t)) t * o t d

theorem glue_sum (a b : Fin 128 → EReal) (w : Fin 256 → EReal) : ∑ d, glue a b d * w d =
    ∑ k : Fin 128, a k * w ⟨k, by omega⟩ + ∑ k : Fin 128, b k * w ⟨128 + k, by omega⟩ := by
  refine (Fin.sum_univ_add (a := 128) (b := 128) _).trans ?_
  refine congrArg₂ (· + ·) (Finset.sum_congr rfl fun k _ => ?_) (Finset.sum_congr rfl fun k _ => ?_)
  · unfold glue; rw [dif_pos (show (Fin.castAdd 128 k).val < 128 from k.isLt)]; rfl
  · unfold glue; rw [dif_neg (show ¬ (Fin.natAdd 128 k).val < 128 by simp)]
    refine congrArg₂ (· * ·) (congrArg b (Fin.ext ?_)) rfl
    simp

theorem coe_sum' {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem score_fin (Wp : Fin 128 → Fin 256 → EReal) (bp : Fin 128 → EReal) {ctx : Fin 128 → EReal} (hc : ∀ c, ∃ r : ℝ, ctx c = r)
    (o : Fin 256 → EReal) : ∃ r : ℝ, score Wp bp ctx o = r := by
  choose f hf using hc
  choose g hg using fun c => tanh_fin (∑ d, o d * Wp c d + bp c)
  refine ⟨∑ c, g c * f c, ?_⟩
  unfold score
  rw [coe_sum']
  refine Finset.sum_congr rfl fun c _ => ?_
  rw [hf, hg, EReal.coe_mul]

theorem top_fin (σ : Fin 20 → ℝ) : ∃ m : ℝ, top (fun t => (σ t : EReal)) = m := by
  have h : ∀ S : Finset (Fin 20), S.Nonempty → ∃ m : ℝ, S.fold max ⊥ (fun t => (σ t : EReal)) = m := by
    intro S hS
    induction hS using Finset.Nonempty.cons_induction with
    | singleton a => exact ⟨σ a, by simp⟩
    | cons a S ha hS ih =>
      obtain ⟨m, hm⟩ := ih
      exact ⟨max (σ a) m, by rw [Finset.fold_cons, hm]; exact (EReal.coe_strictMono.monotone.map_max).symm⟩
  obtain ⟨m, hm⟩ := h Finset.univ ⟨0, Finset.mem_univ _⟩
  exact ⟨m, by unfold top; rw [hm]; exact max_eq_right bot_le⟩

/-- Taking the maximum out of finite scores changes no weight. -/
theorem att_eq (s : Fin 20 → EReal) (hs : ∀ t, ∃ r : ℝ, s t = r) (t : Fin 20) :
    Ideal.exp (s t) * Ideal.div 1 (∑ u, Ideal.exp (s u)) = att s t := by
  choose σ hσ using hs
  obtain rfl : s = fun t => (σ t : EReal) := funext hσ
  obtain ⟨m, hm⟩ := top_fin σ
  unfold att
  simp only [hm, ← EReal.coe_sub, exp_coe, ← coe_sum']
  have p : (∑ u, Real.exp (σ u)) ≠ 0 := (Finset.sum_pos (fun u _ => Real.exp_pos _) ⟨0, Finset.mem_univ _⟩).ne'
  have q : (∑ u, Real.exp (σ u - m)) ≠ 0 := (Finset.sum_pos (fun u _ => Real.exp_pos _) ⟨0, Finset.mem_univ _⟩).ne'
  rw [Ideal.div_coe p, Ideal.div_coe q, one_mul, ← EReal.coe_mul, ← EReal.coe_mul]
  congr 1
  have e : ∑ u, Real.exp (σ u - m) = (∑ u, Real.exp (σ u)) / Real.exp m := by
    rw [Finset.sum_div]; exact Finset.sum_congr rfl fun u _ => Real.exp_sub _ _
  have hm := (Real.exp_pos m).ne'
  rw [e, Real.exp_sub]
  field_simp

/-- The kernel's form of the pooled result. -/
theorem pooled_eq (Wp : Fin 128 → Fin 256 → EReal) (bp : Fin 128 → EReal) {ctx : Fin 128 → EReal} (hc : ∀ c, ∃ r : ℝ, ctx c = r)
    (o : Fin 20 → Fin 256 → EReal) (d : Fin 256) :
    ∑ t, o t d * (Ideal.exp (score Wp bp ctx (o t)) * Ideal.div 1 (∑ u, Ideal.exp (score Wp bp ctx (o u)))) =
      pooled Wp bp ctx o d := by
  refine Finset.sum_congr rfl fun t _ => ?_
  rw [att_eq (fun t => score Wp bp ctx (o t)) (fun t => score_fin Wp bp hc (o t)), mul_comm]

end Cert.Words.Spec

end
-- ==== Proof.KerOut.lean ====
/-
  The kernel's block result read at a row: the outputs, their scores and the attention of the row's word.
-/
module

public import proofs.«01_k».proof.Proof.KerAt
public import proofs.«01_k».proof.Proof.Attn

@[expose] public section

noncomputable section

namespace Cert.Words

open Idealize.ShloMosaic Idealize.SL.Sem Cert.KernelIdeal Cert.KernelIdeal.Gen

set_option maxRecDepth 16384

section
variable (x0 : Vec Ideal S1024x20 .i32) (x1 : Vec Ideal S1024x1 .i32) (x2 : Vec Ideal S128x64 .f32) (x3 : Vec Ideal S64x768 .f32)
  (x4 : Vec Ideal S128x384 .f32) (x5 : Vec Ideal S128x384 .f32) (x6 : Vec Ideal S1x768 .f32) (x7 : Vec Ideal S1x384 .f32)
  (x8 : Vec Ideal S1x384 .f32) (x9 : Vec Ideal S256x128 .f32) (x10 : Vec Ideal S1x128 .f32) (x11 : Vec Ideal S1x128 .f32)

theorem expo_at (a b : FVec Ideal S1024x128 .bf16) (r : Fin 1024) : expo x9 x10 x11 a b (ix2 r 0) =
    Ideal.exp (Spec.score (fun c d => x9 (ix2 d c)) (fun c => x10 (ix2 0 c)) (fun c => x11 (ix2 0 c))
      (Spec.glue (fun k => a (ix2 r k)) (fun k => b (ix2 r k)))) := by
  pointwise [expo]
  unfold Spec.score
  simp only [Spec.glue_sum]

variable (r : Fin 1024) (ch : ℕ → Fin 128) (hc : ∀ t, t < 20 → x0 (ix2 r ⟨t % 20, Nat.mod_lt _ (Nat.succ_pos 19)⟩) = BitVec.ofNat 32 (ch t))
  (hl : (x1 (ix2 r 0)).toInt ≤ 20)

/-- A row's output at a position. -/
def rowOut (t : Fin 20) : Fin 256 → EReal :=
  Spec.glue
    (fun j => Spec.run (fun j k => x4 (ix2 k j)) (fun j => x7 (ix2 0 j)) (fun t => xF x2 x3 x6 (ch t)) (t + 1) j *
      (if t.val < (x1 (ix2 r 0)).toInt.toNat then 1 else 0))
    (fun j => Spec.run (fun j k => x5 (ix2 k j)) (fun j => x8 (ix2 0 j))
      (fun k => xB x2 x3 x6 (ch (Spec.rev (x1 (ix2 r 0)).toInt.toNat k))) (Spec.rev (x1 (ix2 r 0)).toInt.toNat t + 1) j *
      (if t.val < (x1 (ix2 r 0)).toInt.toNat then 1 else 0))

include hc in
theorem outF_at (t : Fin 20) (j : Fin 128) : outF x0 x1 x2 x3 x4 x6 x7 t (ix2 r j) =
    Spec.run (fun j k => x4 (ix2 k j)) (fun j => x7 (ix2 0 j)) (fun t => xF x2 x3 x6 (ch t)) (t + 1) j *
      (if t.val < (x1 (ix2 r 0)).toInt.toNat then 1 else 0) := by
  pointwise [outF]
  rw [msk_at x1 t t.isLt, fwd_at x0 x2 x3 x4 x6 x7 r ch hc _ t.isLt, mul_comm]

include hc hl in
theorem outB_at (t : Fin 20) (j : Fin 128) : outB x0 x1 x2 x3 x5 x6 x8 t (ix2 r j) =
    Spec.run (fun j k => x5 (ix2 k j)) (fun j => x8 (ix2 0 j))
      (fun k => xB x2 x3 x6 (ch (Spec.rev (x1 (ix2 r 0)).toInt.toNat k))) (Spec.rev (x1 (ix2 r 0)).toInt.toNat t + 1) j *
      (if t.val < (x1 (ix2 r 0)).toInt.toNat then 1 else 0) := by
  unfold outB
  rw [bwd_at x0 x1 x2 x3 x5 x6 x8 r ch hc (by omega) _ (by omega),
    Spec.back_out _ _ (fun t => xB x2 x3 x6 (ch t)) (by omega) t t.isLt]

/-- A row's exponential at a position. -/
def rowEs (t : Fin 20) : EReal :=
  Ideal.exp (Spec.score (fun c d => x9 (ix2 d c)) (fun c => x10 (ix2 0 c)) (fun c => x11 (ix2 0 c))
    (rowOut x1 x2 x3 x4 x5 x6 x7 x8 r ch t))

include hc hl in
theorem es_at (t : Fin 20) : es x0 x1 x2 x3 x4 x5 x6 x7 x8 x9 x10 x11 t (ix2 r 0) =
    rowEs x1 x2 x3 x4 x5 x6 x7 x8 x9 x10 x11 r ch t := by
  unfold es rowEs rowOut
  rw [expo_at]
  simp only [outF_at x0 x1 x2 x3 x4 x6 x7 r ch hc, outB_at x0 x1 x2 x3 x5 x6 x8 r ch hc hl]

/-- A running sum is the sum. -/
theorem running {f g : ℕ → EReal} (h0 : f 0 = g 0) (h : ∀ n, f (n + 1) = f n + g (n + 1)) (n : ℕ) :
    f n = ∑ t : Fin (n + 1), g t := by
  rw [Fin.sum_univ_eq_sum_range g (n + 1)]
  induction n with
  | zero => rw [h0, Finset.sum_range_one]
  | succ n ih => rw [h, ih, Finset.sum_range_succ _ (n + 1)]

include hc hl in
theorem inv_at : inv x0 x1 x2 x3 x4 x5 x6 x7 x8 x9 x10 x11 (ix2 r 0) =
    Ideal.div 1 (∑ t, rowEs x1 x2 x3 x4 x5 x6 x7 x8 x9 x10 x11 r ch t) := by
  have h : den x0 x1 x2 x3 x4 x5 x6 x7 x8 x9 x10 x11 19 (ix2 r 0) = _ :=
    running (f := fun n => den x0 x1 x2 x3 x4 x5 x6 x7 x8 x9 x10 x11 n (ix2 r 0))
      (g := fun n => es x0 x1 x2 x3 x4 x5 x6 x7 x8 x9 x10 x11 n (ix2 r 0)) rfl (fun n => by pointwise [den]) 19
  pointwise [inv]
  rw [h]
  exact congrArg (Ideal.div 1) (Finset.sum_congr rfl fun t _ => es_at x0 x1 x2 x3 x4 x5 x6 x7 x8 x9 x10 x11 r ch hc hl t)

include hc hl in
theorem wtd_at (o : FVec Ideal S1024x128 .bf16) (t : Fin 20) (j : Fin 128) :
    wtd x0 x1 x2 x3 x4 x5 x6 x7 x8 x9 x10 x11 o t (ix2 r j) = o (ix2 r j) *
      (rowEs x1 x2 x3 x4 x5 x6 x7 x8 x9 x10 x11 r ch t *
        Ideal.div 1 (∑ t, rowEs x1 x2 x3 x4 x5 x6 x7 x8 x9 x10 x11 r ch t)) := by
  pointwise [wtd]
  rw [es_at x0 x1 x2 x3 x4 x5 x6 x7 x8 x9 x10 x11 r ch hc hl, inv_at x0 x1 x2 x3 x4 x5 x6 x7 x8 x9 x10 x11 r ch hc hl]

include hc hl in
/-- The block's result at a row. -/
theorem res_at (hx : ∀ c, ∃ a : ℝ, x11 (ix2 0 c) = a) (d : Fin 256) :
    res x0 x1 x2 x3 x4 x5 x6 x7 x8 x9 x10 x11 (ix2 r d) =
    Spec.pooled (fun c d => x9 (ix2 d c)) (fun c => x10 (ix2 0 c)) (fun c => x11 (ix2 0 c))
      (rowOut x1 x2 x3 x4 x5 x6 x7 x8 r ch) d := by
  rw [← Spec.pooled_eq _ _ (ctx := fun c => x11 (ix2 0 c)) hx]
  have hF : ∀ j, accF x0 x1 x2 x3 x4 x5 x6 x7 x8 x9 x10 x11 19 (ix2 r j) = _ := fun j =>
    running (f := fun n => accF x0 x1 x2 x3 x4 x5 x6 x7 x8 x9 x10 x11 n (ix2 r j))
      (g := fun n => wtd x0 x1 x2 x3 x4 x5 x6 x7 x8 x9 x10 x11 (outF x0 x1 x2 x3 x4 x6 x7 n) n (ix2 r j)) rfl
      (fun n => by pointwise [accF]) 19
  have hB : ∀ j, accB x0 x1 x2 x3 x4 x5 x6 x7 x8 x9 x10 x11 19 (ix2 r j) = _ := fun j =>
    running (f := fun n => accB x0 x1 x2 x3 x4 x5 x6 x7 x8 x9 x10 x11 n (ix2 r j))
      (g := fun n => wtd x0 x1 x2 x3 x4 x5 x6 x7 x8 x9 x10 x11 (outB x0 x1 x2 x3 x5 x6 x8 n) n (ix2 r j)) rfl
      (fun n => by pointwise [accB]) 19
  pointwise [res]
  by_cases h : d.val < 128
  · rw [dif_pos h, hF]
    refine Finset.sum_congr rfl fun t _ => ?_
    refine (wtd_at x0 x1 x2 x3 x4 x5 x6 x7 x8 x9 x10 x11 r ch hc hl _ t _).trans ?_
    rw [outF_at x0 x1 x2 x3 x4 x6 x7 r ch hc t]
    unfold rowEs rowOut
    rw [show ∀ a b, Spec.glue a b d = a ⟨d, h⟩ from fun a b => dif_pos h]
  · rw [dif_neg h, hB]
    refine Finset.sum_congr rfl fun t _ => ?_
    refine (wtd_at x0 x1 x2 x3 x4 x5 x6 x7 x8 x9 x10 x11 r ch hc hl _ t _).trans ?_
    rw [outB_at x0 x1 x2 x3 x5 x6 x8 r ch hc hl t]
    unfold rowEs rowOut
    rw [show ∀ a b, Spec.glue a b d = b ⟨d - 128, by omega⟩ from fun a b => dif_neg h]

end

end Cert.Words

end
-- ==== Proof.BodyEq.lean ====
module

public import proofs.«01_k».proof.Proof.Body

@[expose] public section

noncomputable section

namespace Cert.Words

open Idealize.ShloMosaic Idealize.SL.Sem Cert.KernelIdeal Cert.KernelIdeal.Gen

variable {F : FTy → Type} [FloatOps F]
variable (x0 : Vec F S1024x20 .i32) (x1 : Vec F S1024x1 .i32) (x2 : Vec F S128x64 .f32) (x3 : Vec F S64x768 .f32)
  (x4 : Vec F S128x384 .f32) (x5 : Vec F S128x384 .f32) (x6 : Vec F S1x768 .f32) (x7 : Vec F S1x384 .f32)
  (x8 : Vec F S1x384 .f32) (x9 : Vec F S256x128 .f32) (x10 : Vec F S1x128 .f32) (x11 : Vec F S1x128 .f32)

set_option maxRecDepth 100000 in
set_option maxHeartbeats 4000000 in
theorem out_eq : out0_12 x0 x1 x2 x3 x4 x5 x6 x7 x8 x9 x10 x11 =
    View.canon [⟨r0_9, res (View.ld x0 r0_0) (View.ld x1 r0_1) (View.ld x2 r0_2) (View.ld x3 r0_3) (View.ld x4 r0_5)
      (View.ld x5 r0_5) (View.ld x6 r0_4) (View.ld x7 r0_6) (View.ld x8 r0_6) (View.ld x9 r0_7) (View.ld x10 r0_8)
      (View.ld x11 r0_8)⟩] := rfl

end Cert.Words

end
-- ==== Proof.Word.lean ====
/-
  A word's result as mathematics: both recurrences over the word's characters, glued per position and pooled.
-/
module

public import proofs.«01_k».proof.Proof.Attn

@[expose] public section

noncomputable section

namespace Cert.Words.Spec

open Idealize.ShloMosaic

/-- A word's outputs, from its characters' projections in the two directions and its length. -/
def outs (U V : Fin 384 → Fin 128 → EReal) (b c : Fin 384 → EReal) (x y : Fin 128 → Fin 384 → EReal) (ch : ℕ → Fin 128)
    (n : ℕ) (t : Fin 20) : Fin 256 → EReal :=
  glue (fun j => run U b (fun t => x (ch t)) (t + 1) j * (if t.val < n then 1 else 0))
    (fun j => run V c (fun k => y (ch (rev n k))) (rev n t + 1) j * (if t.val < n then 1 else 0))

/-- A word's characters, read off its row. -/
def chars (row : Fin 20 → BitVec 32) (t : ℕ) : Fin 128 :=
  ⟨(row ⟨t % 20, Nat.mod_lt _ (by decide)⟩).toNat % 128, Nat.mod_lt _ (by decide)⟩

theorem chars_eq (row : Fin 20 → BitVec 32) (h : ∀ t, (row t).toNat < 128) (t : ℕ) :
    row ⟨t % 20, Nat.mod_lt _ (by decide)⟩ = BitVec.ofNat 32 (chars row t) := by
  apply BitVec.eq_of_toNat_eq
  have := h ⟨t % 20, Nat.mod_lt _ (by decide)⟩
  simp only [BitVec.toNat_ofNat, chars]
  omega

end Cert.Words.Spec

end
-- ==== Proof.KerRun.lean ====
/-
  The kernel's run: every block written back is its rows of one array, a word's pooled outputs per row.
-/
module

public import proofs.«01_k».proof.Proof.KerV
public import proofs.«01_k».proof.Proof.KerOut
public import proofs.«01_k».proof.Proof.BodyEq
public import proofs.«01_k».proof.Proof.Word

@[expose] public section

noncomputable section

namespace Cert.Words

open Idealize.ShloMosaic Idealize.ShloMosaic.TcCoe Idealize.SL Idealize.SL.Sem Cert.KernelIdeal Cert.KernelIdeal.Gen
open Idealize.ShloMosaic.Pipeline (Dat)

set_option maxRecDepth 16384

/-- The result at a word and a feature, of the fourteen arguments. -/
def word (a0 : Vec Ideal S32768x20 .i32) (a1 : Vec Ideal S32768 .i32) (a2 : Vec Ideal S128x64 .f32) (a3 : Vec Ideal S384x64 .f32)
    (a4 : Vec Ideal S384x128 .f32) (a5 a6 : Vec Ideal S384 .f32) (a7 : Vec Ideal S384x64 .f32) (a8 : Vec Ideal S384x128 .f32)
    (a9 a10 : Vec Ideal S384 .f32) (a11 : Vec Ideal S128x256 .f32) (a12 : Vec Ideal S128 .f32) (a13 : Vec Ideal S128x1 .f32)
    (w : Fin 32768) (d : Fin 256) : EReal :=
  Spec.pooled (fun c d => a11 (ix2 c d)) (fun c => a12 (ix1 c)) (fun c => a13 (ix2 c 0))
    (Spec.outs (fun j k => a4 (ix2 j k)) (fun j k => a8 (ix2 j k)) (fun j => a6 (ix1 j)) (fun j => a10 (ix1 j))
      (Spec.xp (fun c e => a2 (ix2 c e)) (fun j e => a3 (ix2 j e)) (fun j => a5 (ix1 j)))
      (Spec.xp (fun c e => a2 (ix2 c e)) (fun j e => a7 (ix2 j e)) (fun j => a9 (ix1 j)))
      (Spec.chars fun t => a0 (ix2 w t)) (a1 (ix1 w)).toInt.toNat) d

/-- What the arguments satisfy: characters inside the table, lengths inside the row, a finite context vector. -/
structure Fits (a0 : Vec Ideal S32768x20 .i32) (a1 : Vec Ideal S32768 .i32) (a13 : Vec Ideal S128x1 .f32) : Prop where
  chars : ∀ w t, (a0 (ix2 w t)).toNat < 128
  lens : ∀ w, (a1 (ix1 w)).toInt ≤ 20
  ctx : ∀ c, ∃ a : ℝ, a13 (ix2 c 0) = a

variable (m : (ℓ : Loc nD τ sig) → Buf (Elt Ideal) ℓ) (ρ : Dev nD → PrngReg) (c : Dev nD)

/-- The whole result. -/
def K : Buf (Elt Ideal) ((c : Thread nD τ).loc main_v0) := fun i : S32768x256.Idx =>
  word (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1)

theorem hz : (![0, 0] : Fin 2 → Nat) = fun _ => 0 := funext fun a => by fin_cases a <;> rfl

theorem out_eq' (x0 : Vec Ideal S1024x20 .i32) (x1 : Vec Ideal S1024x1 .i32) (x2 : Vec Ideal S128x64 .f32) (x3 : Vec Ideal S64x768 .f32)
    (x4 : Vec Ideal S128x384 .f32) (x5 : Vec Ideal S128x384 .f32) (x6 : Vec Ideal S1x768 .f32) (x7 : Vec Ideal S1x384 .f32)
    (x8 : Vec Ideal S1x384 .f32) (x9 : Vec Ideal S256x128 .f32) (x10 : Vec Ideal S1x128 .f32) (x11 : Vec Ideal S1x128 .f32) :
    out0_12 x0 x1 x2 x3 x4 x5 x6 x7 x8 x9 x10 x11 = res x0 x1 x2 x3 x4 x5 x6 x7 x8 x9 x10 x11 := by
  rw [out_eq, View.canon_unit_zero hz]
  simp only [View.ld_unit_zero (S := S1024x20) hz, View.ld_unit_zero (S := S1024x1) hz, View.ld_unit_zero (S := S128x64) hz,
    View.ld_unit_zero (S := S64x768) hz, View.ld_unit_zero (S := S128x384) hz, View.ld_unit_zero (S := S1x768) hz,
    View.ld_unit_zero (S := S1x384) hz, View.ld_unit_zero (S := S256x128) hz, View.ld_unit_zero (S := S1x128) hz]

/-- A block whose rows are the arguments' has the words' results. -/
theorem res_word (x0 : Vec Ideal S1024x20 .i32) (x1 : Vec Ideal S1024x1 .i32) (x2 : Vec Ideal S128x64 .f32) (x3 : Vec Ideal S64x768 .f32)
    (x4 : Vec Ideal S128x384 .f32) (x5 : Vec Ideal S128x384 .f32) (x6 : Vec Ideal S1x768 .f32) (x7 : Vec Ideal S1x384 .f32)
    (x8 : Vec Ideal S1x384 .f32) (x9 : Vec Ideal S256x128 .f32) (x10 : Vec Ideal S1x128 .f32) (x11 : Vec Ideal S1x128 .f32)
    (a0 : Vec Ideal S32768x20 .i32) (a1 : Vec Ideal S32768 .i32) (a2 : Vec Ideal S128x64 .f32) (a3 : Vec Ideal S384x64 .f32)
    (a4 : Vec Ideal S384x128 .f32) (a5 a6 : Vec Ideal S384 .f32) (a7 : Vec Ideal S384x64 .f32) (a8 : Vec Ideal S384x128 .f32)
    (a9 a10 : Vec Ideal S384 .f32) (a11 : Vec Ideal S128x256 .f32) (a12 : Vec Ideal S128 .f32) (a13 : Vec Ideal S128x1 .f32)
    (r : Fin 1024) (w : Fin 32768) (h : Fits a0 a1 a13)
    (h0 : ∀ j, x0 (ix2 r j) = a0 (ix2 w j)) (h1 : x1 (ix2 r 0) = a1 (ix1 w)) (h2 : ∀ i j, x2 (ix2 i j) = a2 (ix2 i j))
    (h3 : ∀ (e : Fin 64) (j : Fin 384), x3 (ix2 e ⟨j, by omega⟩) = a3 (ix2 j e))
    (h3' : ∀ (e : Fin 64) (j : Fin 384), x3 (ix2 e ⟨384 + j, by omega⟩) = a7 (ix2 j e))
    (h4 : ∀ k j, x4 (ix2 k j) = a4 (ix2 j k)) (h5 : ∀ k j, x5 (ix2 k j) = a8 (ix2 j k))
    (h6 : ∀ j : Fin 384, x6 (ix2 0 ⟨j, by omega⟩) = a5 (ix1 j)) (h6' : ∀ j : Fin 384, x6 (ix2 0 ⟨384 + j, by omega⟩) = a9 (ix1 j))
    (h7 : ∀ j, x7 (ix2 0 j) = a6 (ix1 j)) (h8 : ∀ j, x8 (ix2 0 j) = a10 (ix1 j)) (h9 : ∀ d k, x9 (ix2 d k) = a11 (ix2 k d))
    (h10 : ∀ k, x10 (ix2 0 k) = a12 (ix1 k)) (h11 : ∀ k, x11 (ix2 0 k) = a13 (ix2 k 0)) (d : Fin 256) :
    res x0 x1 x2 x3 x4 x5 x6 x7 x8 x9 x10 x11 (ix2 r d) = word a0 a1 a2 a3 a4 a5 a6 a7 a8 a9 a10 a11 a12 a13 w d := by
  rw [res_at x0 x1 x2 x3 x4 x5 x6 x7 x8 x9 x10 x11 r (Spec.chars fun t => a0 (ix2 w t))
    (fun t _ => (h0 _).trans (Spec.chars_eq (fun t => a0 (ix2 w t)) (h.chars w) t)) (by rw [h1]; exact h.lens w)
    (fun k => by rw [h11]; exact h.ctx k) d]
  unfold word
  simp only [h9, h10, h11]
  congr 1
  funext t
  simp only [rowOut, Spec.outs, h1, h4, h5, h7, h8]
  have eF : ∀ k, xF x2 x3 x6 k = Spec.xp (fun c e => a2 (ix2 c e)) (fun j e => a3 (ix2 j e)) (fun j => a5 (ix1 j)) k := fun k => by
    simp only [xF, h2, h3, h6]
  have eB : ∀ k, xB x2 x3 x6 k = Spec.xp (fun c e => a2 (ix2 c e)) (fun j e => a7 (ix2 j e)) (fun j => a9 (ix1 j)) k := fun k => by
    simp only [xB, h2, h3', h6']
  simp only [eF, eB]

variable (h : Fits (m ((c : Thread nD τ).loc main_arg0)) (m ((c : Thread nD τ).loc main_arg1)) (m ((c : Thread nD τ).loc main_arg13)))

theorem blk_2' (t : Fin cfg0.N) (i : Fin 128) (j : Fin 64) : (iblk m c 2 t : Vec Ideal S128x64 .f32) (ix2 i j) =
    (m ((c : Thread nD τ).loc main_arg2) : Vec Ideal S128x64 .f32) (ix2 i j) := by
  rw [at_2]; rfl

include h in
theorem final : (dats m 0 c).arrAt 12 cfg0.N = K m c := by
  refine (dats m 0 c).arrAt_eq_of_covers 12 _ (by decide +kernel) fun t hf y => ?_
  blk_simp
  rw [after0_12, out_eq']
  have hy : (y : S1024x256.Idx) = ix2 (y 0) (y 1) := by blk_ext
  have he : ((win0_12.blk t).view.emb y : S32768x256.Idx) = ix2 (row t (y 0)) (y 1) := by blk_ext [idx_t t]
  rw [he]
  refine (congrArg (res (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)) hy).trans ?_
  exact res_word _ _ _ _ _ _ _ _ _ _ _ _ _ _ _ _ _ _ _ _ _ _ _ _ _ _ (y 0) (row t (y 0)) h (blk_0 m c t _) (blk_1 m c t _)
    (blk_2' m c t) (blk_3a m c t) (blk_3b m c t) (blk_4 m c t) (blk_5 m c t) (blk_6a m c t) (blk_6b m c t) (blk_7 m c t)
    (blk_8 m c t) (blk_9 m c t) (blk_10 m c t) (blk_11 m c t) (y 1)

end Cert.Words

end
-- ==== Proof.RefRun.lean ====
/-
  The reference's run over its step: the loop's valuation, read at the carried buffers, is a state of the step module, one
  trip is `step`, and the result is what the operations after the loop make of the twentieth state.
-/
module

public import proofs.«01_k».proof.Proof.Gen.ReferenceIdeal.Run
public import proofs.«01_k».proof.Proof.Gen.ReferenceIdeal.Step

@[expose] public section

noncomputable section

namespace Cert.Words.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation holds. -/
def st (V0 : Valuation τ sig (Elt F)) : State F where
  main_v37_7 := V0 (Proc.devRef .tc main_v37_7)
  main_v37_8 := V0 (Proc.devRef .tc main_v37_8)
  main_v37_9 := V0 (Proc.devRef .tc main_v37_9)
  main_v37_10 := V0 (Proc.devRef .tc main_v37_10)
  main_v37_0 := V0 (Proc.devRef .tc main_v37_0)
  main_v37_1 := V0 (Proc.devRef .tc main_v37_1)
  main_v37_2 := V0 (Proc.devRef .tc main_v37_2)
  main_v37_3 := V0 (Proc.devRef .tc main_v37_3)
  main_v37_4 := V0 (Proc.devRef .tc main_v37_4)
  main_v37_5 := V0 (Proc.devRef .tc main_v37_5)

/-- The trip's number. -/
def At (V0 : Valuation τ sig (Elt F)) (j : ℕ) : Prop :=
  V0 (Proc.devRef .tc main_v37_6) = constantI S_ 32 (BitVec.ofNat 32 j)

variable {V0 : Valuation τ sig (Elt F)} {j : ℕ}

theorem step_7 (h : At V0 j) : step_main_v37_7 V0 = (step j (st V0)).main_v37_7 := by
  unfold At at h
  unfold step_main_v37_7 res_main_while0b_v120 res_main_while0b_v110 res_main_while0b_v92 res_main_while0b_v86
  rw [h]; rfl

theorem step_8 (h : At V0 j) : step_main_v37_8 V0 = (step j (st V0)).main_v37_8 := by
  unfold At at h
  unfold step_main_v37_8 res_main_while0b_v153 res_main_while0b_v143 res_main_while0b_v125 res_main_while0b_v87
  rw [h]; rfl

theorem step_9 (h : At V0 j) : step_main_v37_9 V0 = (step j (st V0)).main_v37_9 := by
  unfold At at h
  unfold step_main_v37_9 res_main_while0b_v120 res_main_while0b_v110 res_main_while0b_v92 res_main_while0b_v86
  rw [h]; rfl

theorem step_10 (h : At V0 j) : step_main_v37_10 V0 = (step j (st V0)).main_v37_10 := by
  unfold At at h
  unfold step_main_v37_10 res_main_while0b_v153 res_main_while0b_v143 res_main_while0b_v125 res_main_while0b_v87
  rw [h]; rfl

theorem step_6 (h : At V0 j) : At (STEP V0) (j + 1) := by
  unfold At at h ⊢
  rw [STEP_main_v37_6]
  unfold step_main_v37_6
  rw [h]
  show addi (constantI S_ 32 (BitVec.ofNat 32 j)) (constantI S_ 32 1#32) = _
  funext y
  show BitVec.ofNat 32 j + 1#32 = BitVec.ofNat 32 (j + 1)
  exact (BitVec.ofNat_add j 1).symm

/-- One trip is `step`. -/
theorem st_STEP (h : At V0 j) : st (STEP V0) = step j (st V0) := by
  have e7 := (STEP_main_v37_7 V0).trans (step_7 h)
  have e8 := (STEP_main_v37_8 V0).trans (step_8 h)
  have e9 := (STEP_main_v37_9 V0).trans (step_9 h)
  have e10 := (STEP_main_v37_10 V0).trans (step_10 h)
  unfold st
  rw [e7, e8, e9, e10, STEP_main_v37_0, STEP_main_v37_1, STEP_main_v37_2, STEP_main_v37_3, STEP_main_v37_4, STEP_main_v37_5]
  rfl

/-- The state after `n` trips from `s`. -/
def iter (s : State F) : ℕ → State F
  | 0 => s
  | n + 1 => step n (iter s n)

variable (m : (ℓ : Loc nD τ sig) → Buf (Elt F) ℓ) (c : Dev nD)

/-- The state the first trip starts from. -/
def start : State F :=
  init (m ((c.tc : Thread nD τ).loc main_arg4)) (m ((c.tc : Thread nD τ).loc main_arg6)) (m ((c.tc : Thread nD τ).loc main_arg8))
    (m ((c.tc : Thread nD τ).loc main_arg10)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5))
    (m ((c.tc : Thread nD τ).loc main_arg7)) (m ((c.tc : Thread nD τ).loc main_arg9))

set_option maxRecDepth 65536 in
set_option maxHeartbeats 600000 in
theorem st_entry : st (entryContents preI m c) = start m c := by
  unfold st
  simp only [entryContents, afterL_cons, afterL_nil]
  after_reads_simp
  rfl

set_option maxRecDepth 65536 in
set_option maxHeartbeats 600000 in
theorem at_entry : At (entryContents preI m c) 0 := by
  unfold At
  simp only [entryContents, afterL_cons, afterL_nil]
  after_reads_simp
  rfl

theorem iter_holds : ∀ k, At (STEP^[k] (entryContents preI m c)) k
    ∧ st (STEP^[k] (entryContents preI m c)) = iter (start m c) k
  | 0 => ⟨at_entry m c, st_entry m c⟩
  | k + 1 => by
    rw [Function.iterate_succ_apply']
    have h := iter_holds k
    exact ⟨step_6 h.1, (st_STEP h.1).trans (by rw [h.2]; rfl)⟩

/-- What the operations after the loop make of a state and the arguments they read. -/
theorem out_st (V : Valuation τ sig (Elt F)) : out_main_v85 V = Step.R_main_v85 (st V) (V (Proc.devRef .tc main_arg1))
    (V (Proc.devRef .tc main_arg11)) (V (Proc.devRef .tc main_arg12)) (V (Proc.devRef .tc main_arg13)) := rfl

/-- The result. -/
def out : (⟨S32768x256, .f32⟩ : BufTy).Contents (Elt F) :=
  Step.R_main_v85 (iter (start m c) 20) (m ((c.tc : Thread nD τ).loc main_arg1)) (m ((c.tc : Thread nD τ).loc main_arg11))
    (m ((c.tc : Thread nD τ).loc main_arg12)) (m ((c.tc : Thread nD τ).loc main_arg13))

set_option maxRecDepth 65536 in
theorem out_eq : out_main_v85 (STEP^[20] (entryContents preI m c)) = out m c := by
  rw [out_st, (iter_holds m c 20).2]
  unfold out
  rw [iter_main_arg1 m c 20, iter_main_arg11 m c 20, iter_main_arg12 m c 20, iter_main_arg13 m c 20]

end Cert.Words.Ref

end
-- ==== Proof.RefAt.lean ====
/-
  The reference read at a word: the projections its loop takes in, one trip, and the loop's states.
-/
module

public import proofs.«01_k».proof.Proof.RefRun
public import proofs.«01_k».proof.Proof.Spec
public import Idealize.ShloMosaic.Lib.Pointwise

@[expose] public section

noncomputable section

namespace Cert.Words.Ref

open Idealize.ShloMosaic Idealize.SL.Sem Cert.ReferenceIdeal Cert.ReferenceIdeal.Step

set_option maxRecDepth 16384

/-- The table's rows gathered at an entry. -/
theorem take_at {α : Type} (x : S128x64.Idx → α) (idx : IVec S32768x20x1 32) (r : Fin 32768) (t : Fin 20) (e : Fin 64) :
    Host.gather gather_S128x64_S32768x20x1_S32768x20x64_2_0_n_n_0_2_164 x idx (ix3 r t e) =
      x (ix2 ⟨min (idx (ix3 r t 0)).toInt.toNat 127, by omega⟩ e) := by
  unfold Host.gather
  congr 1
  funext a
  refine Fin.ext ?_
  match a with
  | ⟨0, _⟩ =>
    show (min (idx _).toInt.toNat 127) = (min (idx (ix3 r t 0)).toInt.toNat 127)
    congr 4
    funext b; refine Fin.ext ?_
    match b with
    | ⟨0, _⟩ => rfl
    | ⟨1, _⟩ => rfl
    | ⟨2, _⟩ => rfl
  | ⟨1, _⟩ =>
    show 0 + 0 + e.val = e.val
    omega

/-- The embedded characters gathered along the positions, at an entry. -/
theorem along64_at {α : Type} (x : S32768x20x64.Idx → α) (idx : IVec S32768x20x1 32) (r : Fin 32768) (t : Fin 20) (e : Fin 64) :
    Host.gather gather_S32768x20x64_S32768x20x1_S32768x20x64_2_1_0_0_1_2_1164 x idx (ix3 r t e) =
      x (ix3 r ⟨min (idx (ix3 r t 0)).toInt.toNat 19, by omega⟩ e) := by
  unfold Host.gather
  congr 1
  funext a
  refine Fin.ext ?_
  match a with
  | ⟨0, _⟩ =>
    show 0 + r.val + 0 = r.val
    omega
  | ⟨1, _⟩ =>
    show (min (idx _).toInt.toNat 19) = (min (idx (ix3 r t 0)).toInt.toNat 19)
    congr 4
    funext b; refine Fin.ext ?_
    match b with
    | ⟨0, _⟩ => rfl
    | ⟨1, _⟩ => rfl
    | ⟨2, _⟩ => rfl
  | ⟨2, _⟩ =>
    show 0 + 0 + e.val = e.val
    omega

/-- The backward states gathered along the positions, at an entry. -/
theorem along128_at {α : Type} (x : S32768x20x128.Idx → α) (idx : IVec S32768x20x1 32) (r : Fin 32768) (t : Fin 20) (e : Fin 128) :
    Host.gather gather_S32768x20x128_S32768x20x1_S32768x20x128_2_1_0_0_1_2_11128 x idx (ix3 r t e) =
      x (ix3 r ⟨min (idx (ix3 r t 0)).toInt.toNat 19, by omega⟩ e) := by
  unfold Host.gather
  congr 1
  funext a
  refine Fin.ext ?_
  match a with
  | ⟨0, _⟩ =>
    show 0 + r.val + 0 = r.val
    omega
  | ⟨1, _⟩ =>
    show (min (idx _).toInt.toNat 19) = (min (idx (ix3 r t 0)).toInt.toNat 19)
    congr 4
    funext b; refine Fin.ext ?_
    match b with
    | ⟨0, _⟩ => rfl
    | ⟨1, _⟩ => rfl
    | ⟨2, _⟩ => rfl
  | ⟨2, _⟩ =>
    show 0 + 0 + e.val = e.val
    omega

/-- A character's row of the table. -/
theorem char_row : ∀ c : Fin 128, min (Scalar.select (IntOp.cmpi CmpIPredicate.slt (BitVec.ofNat 32 c) 0#32)
    (IntOp.addi (BitVec.ofNat 32 c) 128#32) (BitVec.ofNat 32 c)).toInt.toNat 127 = c.val := by
  decide +kernel

/-- The index of the position reversed within a word. -/
def pos (a : BitVec 32) (t : ℕ) : BitVec 32 :=
  Scalar.select (IntOp.cmpi CmpIPredicate.slt (BitVec.ofNat 32 t) a)
    (IntOp.subi (IntOp.subi a 1#32) (BitVec.ofNat 32 t)) (BitVec.ofNat 32 t)

/-- The same with a negative index wrapped. -/
def wrap (p : BitVec 32) : BitVec 32 := Scalar.select (IntOp.cmpi CmpIPredicate.slt p 0#32) (IntOp.addi p 20#32) p

theorem wrap_pos_in : ∀ (l : Fin 21) (t : Fin 20), min (wrap (pos (BitVec.ofNat 32 l) t)).toInt.toNat 19 = Spec.rev l t := by
  decide +kernel

theorem wrap_out : ∀ (t : Fin 20), min (wrap (BitVec.ofNat 32 t)).toInt.toNat 19 = t.val := by
  decide +kernel

theorem wrap_pos (a : BitVec 32) (ha : a.toInt ≤ 20) (t : Fin 20) :
    min (wrap (pos a t)).toInt.toNat 19 = Spec.rev a.toInt.toNat t := by
  by_cases h : 0 ≤ a.toInt
  · have hl : a.toInt.toNat < 21 := by omega
    have e : a = BitVec.ofNat 32 a.toInt.toNat := by
      apply BitVec.eq_of_toInt_eq
      rw [BitVec.toInt_eq_toNat_cond (BitVec.ofNat 32 _), BitVec.toNat_ofNat]; split <;> omega
    have := wrap_pos_in ⟨a.toInt.toNat, hl⟩ t
    rw [← e] at this
    exact this
  · have e : IntOp.cmpi CmpIPredicate.slt (BitVec.ofNat 32 t) a = 0#1 := by
      have ht : (BitVec.ofNat 32 t.val).toInt = t.val := by
        have := t.isLt
        rw [BitVec.toInt_eq_toNat_cond, BitVec.toNat_ofNat]; split <;> omega
      have hn : ¬ ((t.val : ℤ) < a.toInt) := by omega
      simp [IntOp.cmpi, BitVec.slt, ht, hn]
    have e2 : pos a t = BitVec.ofNat 32 t := by
      unfold pos; rw [e]; rfl
    rw [e2, wrap_out]
    unfold Spec.rev
    rw [if_neg (by omega)]

section
variable (a0 : Vec Ideal S32768x20 .i32) (a1 : Vec Ideal S32768 .i32) (a2 : Vec Ideal S128x64 .f32) (a3 : Vec Ideal S384x64 .f32)
  (a5 : Vec Ideal S384 .f32) (a7 : Vec Ideal S384x64 .f32) (a9 : Vec Ideal S384 .f32) (r : Fin 32768) (t : Fin 20)

theorem idx_at : A_main_call1_v4 a0 a1 a2 a3 a5 a7 a9 (ix3 r t 0) = wrap (pos (a1 (ix1 r)) t) := by
  pointwise [A_main_call1_v4, A_main_call1_v3, A_main_call1_v1, K_main_call1_v0, K_main_call1_v2, K_main_call1_c, K_main_call1_c_0,
    A_main_v20, A_main_v19, A_main_v18, A_main_v16, A_main_v15, A_main_v13, A_main_v12, A_main_v11, A_main_v9, K_main_v10,
    K_main_v14, K_main_v17, K_main_call0_v0, K_main_v8, K_main_v7, K_main_c_1]
  rfl

theorem v6_at (c : Fin 128) (hc : a0 (ix2 r t) = BitVec.ofNat 32 c) (e : Fin 64) :
    A_main_v6 a0 a1 a2 a3 a5 a7 a9 (ix3 r t e) = a2 (ix2 c e) := by
  unfold A_main_v6
  rw [take_at]
  have h : A_main_v5 a0 a1 a2 a3 a5 a7 a9 (ix3 r t 0) = Scalar.select (IntOp.cmpi CmpIPredicate.slt (BitVec.ofNat 32 c) 0#32)
    (IntOp.addi (BitVec.ofNat 32 c) 128#32) (BitVec.ofNat 32 c) := by
    pointwise [A_main_v5, A_main_v4, A_main_v3, A_main_v1, K_main_v0, K_main_v2, K_main_c, K_main_c_0]
    rw [hc]
  refine congrArg (fun k => a2 (ix2 k e)) (Fin.ext ?_)
  show min (A_main_v5 a0 a1 a2 a3 a5 a7 a9 (ix3 r t 0)).toInt.toNat 127 = _
  rw [h, char_row]

/-- The forward projection the loop reads. -/
theorem v33_at (c : Fin 128) (hc : a0 (ix2 r t) = BitVec.ofNat 32 c) (j : Fin 384) :
    A_main_v33 a0 a1 a2 a3 a5 a7 a9 (ix3 t r j) =
      Spec.xp (fun c e => a2 (ix2 c e)) (fun j e => a3 (ix2 j e)) (fun j => a5 (ix1 j)) c j := by
  pointwise [A_main_v33, A_main_v26, A_main_v25, A_main_v24, A_main_v23, A_main_v22]
  simp only [v6_at a0 a1 a2 a3 a5 a7 a9 r t c hc]
  rfl

/-- The backward projection the loop reads. -/
theorem v34_at (hl : (a1 (ix1 r)).toInt ≤ 20) (ch : ℕ → Fin 128) (hc : ∀ t : Fin 20, a0 (ix2 r t) = BitVec.ofNat 32 (ch t))
    (j : Fin 384) : A_main_v34 a0 a1 a2 a3 a5 a7 a9 (ix3 t r j) =
      Spec.xp (fun c e => a2 (ix2 c e)) (fun j e => a7 (ix2 j e)) (fun j => a9 (ix1 j))
        (ch (Spec.rev (a1 (ix1 r)).toInt.toNat t)) j := by
  pointwise [A_main_v34, A_main_v31, A_main_v30, A_main_v29, A_main_v28, A_main_v27, A_main_v21]
  have h : ∀ e, Host.gather gather_S32768x20x64_S32768x20x1_S32768x20x64_2_1_0_0_1_2_1164 (A_main_v6 a0 a1 a2 a3 a5 a7 a9)
      (A_main_call1_v4 a0 a1 a2 a3 a5 a7 a9) (ix3 r t e) = a2 (ix2 (ch (Spec.rev (a1 (ix1 r)).toInt.toNat t)) e) := by
    intro e
    rw [along64_at, v6_at a0 a1 a2 a3 a5 a7 a9 r _ _ (hc _)]
    refine congrArg (fun k => a2 (ix2 (ch k) e)) ?_
    show min (A_main_call1_v4 a0 a1 a2 a3 a5 a7 a9 (ix3 r t 0)).toInt.toNat 19 = _
    rw [idx_at, wrap_pos _ hl]
  simp only [h]
  rfl

end

section
variable (n : ℕ) (s : State Ideal)

theorem toInt_lt (hn : n < 20) : BitVec.toInt (BitVec.ofNat 32 n) = n := by
  rw [BitVec.toInt_eq_toNat_cond, BitVec.toNat_ofNat]; split <;> omega

/-- The row a trip reads of the projections. -/
theorem row_at {α : Type} (x : S20x32768x384.Idx → α) (a : Fin 3 → Int) (h : S20x32768x384.Slices (fun _ => 0) S1x32768x384)
    (h0 : a 0 = n) (h1 : a 1 = 0) (h2 : a 2 = 0) (hn : n < 20) (r : Fin 32768) (j : Fin 384) :
    Host.dynamicSlice S1x32768x384 x a h (ix3 0 r j) = x (ix3 ⟨n, hn⟩ r j) := by
  have c0 : ∀ e, Host.clampedStart S20x32768x384 S1x32768x384 e a 0 = n := fun e =>
    Host.clampedStart_of_le e a 0 n h0 (show n + 1 ≤ 20 by omega)
  have c1 : ∀ e, Host.clampedStart S20x32768x384 S1x32768x384 e a 1 = 0 := fun e =>
    Host.clampedStart_of_le e a 1 0 h1 (Nat.le_of_eq (Nat.zero_add _))
  have c2 : ∀ e, Host.clampedStart S20x32768x384 S1x32768x384 e a 2 = 0 := fun e =>
    Host.clampedStart_of_le e a 2 0 h2 (Nat.le_of_eq (Nat.zero_add _))
  pointwise []
  simp only [c0, c1, c2, Nat.zero_add]

/-- The outputs after a trip's row is stored. -/
theorem store_at {α : Type} (x : S20x32768x128.Idx → α) (u : S1x32768x128.Idx → α) (a : Fin 3 → Int)
    (h : S20x32768x128.Slices (fun _ => 0) S1x32768x128)
    (h0 : a 0 = n) (h1 : a 1 = 0) (h2 : a 2 = 0) (hn : n < 20) (t : Fin 20) (r : Fin 32768) (j : Fin 128) :
    Host.dynamicUpdateSlice x u a h (ix3 t r j) = if t.val = n then u (ix3 0 r j) else x (ix3 t r j) := by
  have c0 : ∀ e, Host.clampedStart S20x32768x128 S1x32768x128 e a 0 = n := fun e =>
    Host.clampedStart_of_le e a 0 n h0 (show n + 1 ≤ 20 by omega)
  have c1 : ∀ e, Host.clampedStart S20x32768x128 S1x32768x128 e a 1 = 0 := fun e =>
    Host.clampedStart_of_le e a 1 0 h1 (Nat.le_of_eq (Nat.zero_add _))
  have c2 : ∀ e, Host.clampedStart S20x32768x128 S1x32768x128 e a 2 = 0 := fun e =>
    Host.clampedStart_of_le e a 2 0 h2 (Nat.le_of_eq (Nat.zero_add _))
  pointwise []
  simp only [c0, c1, c2, Nat.zero_le, Nat.sub_zero, and_true]
  by_cases e : t.val = n
  · rw [if_pos e, dif_pos ⟨by omega, ⟨trivial, by have := r.isLt; omega⟩, trivial, by have := j.isLt; omega⟩]
    exact congrArg (fun k : Fin 1 => u (ix3 k r j)) (Fin.ext (show t.val - n = 0 by omega))
  · rw [if_neg e, dif_neg (fun h => e (by have := h.1; omega))]

theorem b3_at (hn : n < 20) (r : Fin 32768) (j : Fin 384) : b3 n s (ix2 r j) = s.main_v37_0 (ix3 ⟨n, hn⟩ r j) := by
  pointwise [b3]
  exact row_at n s.main_v37_0 _ _ (toInt_lt n hn) rfl rfl hn r j

theorem b12_at (r : Fin 32768) (j : Fin 384) : b12 n s (ix2 r j) =
    Spec.hp (fun j k => s.main_v37_2 (ix2 j k)) (fun j => s.main_v37_3 (ix1 j)) (fun k => s.main_v37_7 (ix2 r k)) j := by
  pointwise [b12, b11, b10, b9, b8]
  rfl

theorem b45_at (hn : n < 20) (r : Fin 32768) (j : Fin 128) : b45 n s (ix2 r j) =
    Spec.cell (fun j k => s.main_v37_2 (ix2 j k)) (fun j => s.main_v37_3 (ix1 j)) (fun j => s.main_v37_0 (ix3 ⟨n, hn⟩ r j))
      (fun k => s.main_v37_7 (ix2 r k)) j := by
  pointwise [b45, b44, b43, b42, b41, b40, b39, b38, b37, b36, b35, b34, b33, b32, b31, b30, b29, b28, b27, b26, b25, b24, b23, b22, b21, b20, b19, b18, b17, b16, b15, b14, b13]
  simp only [b3_at n s hn, b12_at, Spec.one]
  rfl

theorem b7_at (hn : n < 20) (r : Fin 32768) (j : Fin 384) : b7 n s (ix2 r j) = s.main_v37_1 (ix3 ⟨n, hn⟩ r j) := by
  pointwise [b7]
  exact row_at n s.main_v37_1 _ _ (toInt_lt n hn) rfl rfl hn r j

theorem b50_at (r : Fin 32768) (j : Fin 384) : b50 n s (ix2 r j) =
    Spec.hp (fun j k => s.main_v37_4 (ix2 j k)) (fun j => s.main_v37_5 (ix1 j)) (fun k => s.main_v37_8 (ix2 r k)) j := by
  pointwise [b50, b49, b48, b47, b46]
  rfl

theorem b83_at (hn : n < 20) (r : Fin 32768) (j : Fin 128) : b83 n s (ix2 r j) =
    Spec.cell (fun j k => s.main_v37_4 (ix2 j k)) (fun j => s.main_v37_5 (ix1 j)) (fun j => s.main_v37_1 (ix3 ⟨n, hn⟩ r j))
      (fun k => s.main_v37_8 (ix2 r k)) j := by
  pointwise [b83, b82, b81, b80, b79, b78, b77, b76, b75, b74, b73, b72, b71, b70, b69, b68, b67, b66, b65, b64, b63, b62, b61, b60, b59, b58, b57, b56, b55, b54, b53, b52, b51]
  simp only [b7_at n s hn, b50_at, Spec.one]
  rfl

theorem b87_at (hn : n < 20) (t : Fin 20) (r : Fin 32768) (j : Fin 128) :
    b87 n s (ix3 t r j) = if t.val = n then b45 n s (ix2 r j) else s.main_v37_9 (ix3 t r j) := by
  have e : b84 n s (ix3 0 r j) = b45 n s (ix2 r j) := by
    pointwise [b84]
  rw [← e]
  exact store_at n s.main_v37_9 (b84 n s) _ _ (toInt_lt n hn) rfl rfl hn t r j

theorem b91_at (hn : n < 20) (t : Fin 20) (r : Fin 32768) (j : Fin 128) :
    b91 n s (ix3 t r j) = if t.val = n then b83 n s (ix2 r j) else s.main_v37_10 (ix3 t r j) := by
  have e : b88 n s (ix3 0 r j) = b83 n s (ix2 r j) := by
    pointwise [b88]
  rw [← e]
  exact store_at n s.main_v37_10 (b88 n s) _ _ (toInt_lt n hn) rfl rfl hn t r j

end

section
variable (s : State Ideal) (r : Fin 32768)

/-- A word's forward inputs, by position. -/
def inF (n : ℕ) (j : Fin 384) : EReal := if h : n < 20 then s.main_v37_0 (ix3 ⟨n, h⟩ r j) else 0

/-- A word's backward inputs, by position. -/
def inB (n : ℕ) (j : Fin 384) : EReal := if h : n < 20 then s.main_v37_1 (ix3 ⟨n, h⟩ r j) else 0

/-- A word's forward state after `n` trips. -/
def runF : ℕ → Fin 128 → EReal :=
  Spec.run (fun j k => s.main_v37_2 (ix2 j k)) (fun j => s.main_v37_3 (ix1 j)) (inF s r)

/-- A word's backward state after `n` trips. -/
def runB : ℕ → Fin 128 → EReal :=
  Spec.run (fun j k => s.main_v37_4 (ix2 j k)) (fun j => s.main_v37_5 (ix1 j)) (inB s r)

/-- What the loop's state holds after `n` trips: its inputs as they were, the two runs' states, and the states stored. -/
structure Holds (n : ℕ) (q : State Ideal) : Prop where
  h0 : q.main_v37_0 = s.main_v37_0
  h1 : q.main_v37_1 = s.main_v37_1
  h2 : q.main_v37_2 = s.main_v37_2
  h3 : q.main_v37_3 = s.main_v37_3
  h4 : q.main_v37_4 = s.main_v37_4
  h5 : q.main_v37_5 = s.main_v37_5
  h7 : ∀ j, q.main_v37_7 (ix2 r j) = runF s r n j
  h8 : ∀ j, q.main_v37_8 (ix2 r j) = runB s r n j
  h9 : ∀ t : Fin 20, t.val < n → ∀ j, q.main_v37_9 (ix3 t r j) = runF s r (t + 1) j
  h10 : ∀ t : Fin 20, t.val < n → ∀ j, q.main_v37_10 (ix3 t r j) = runB s r (t + 1) j

theorem holds_step {n : ℕ} (hn : n < 20) {q : State Ideal} (h : Holds s r n q) : Holds s r (n + 1) (step n q) := by
  have f : ∀ j, b45 n q (ix2 r j) = runF s r (n + 1) j := fun j => by
    rw [b45_at n q hn, h.h0, h.h2, h.h3, funext h.h7]
    show _ = Spec.cell _ _ (inF s r n) (runF s r n) j
    congr 1
    funext j; unfold inF; rw [dif_pos hn]
  have g : ∀ j, b83 n q (ix2 r j) = runB s r (n + 1) j := fun j => by
    rw [b83_at n q hn, h.h1, h.h4, h.h5, funext h.h8]
    show _ = Spec.cell _ _ (inB s r n) (runB s r n) j
    congr 1
    funext j; unfold inB; rw [dif_pos hn]
  refine ⟨h.h0, h.h1, h.h2, h.h3, h.h4, h.h5, f, g, fun t ht j => ?_, fun t ht j => ?_⟩
  · show b87 n q (ix3 t r j) = _
    rw [b87_at n q hn]
    by_cases e : t.val = n
    · rw [if_pos e, f, e]
    · rw [if_neg e, h.h9 t (by omega)]
  · show b91 n q (ix3 t r j) = _
    rw [b91_at n q hn]
    by_cases e : t.val = n
    · rw [if_pos e, g, e]
    · rw [if_neg e, h.h10 t (by omega)]

theorem holds_iter (h7 : ∀ j, s.main_v37_7 (ix2 r j) = 0) (h8 : ∀ j, s.main_v37_8 (ix2 r j) = 0) :
    ∀ n ≤ 20, Holds s r n (iter s n)
  | 0, _ => ⟨rfl, rfl, rfl, rfl, rfl, rfl, h7, h8, fun _ h => absurd h (Nat.not_lt_zero _), fun _ h => absurd h (Nat.not_lt_zero _)⟩
  | n + 1, hn => holds_step s r (by omega) (holds_iter h7 h8 n (by omega))

end

end Cert.Words.Ref

end
-- ==== Proof.RefOut.lean ====
/-
  The reference's result read at a word: the outputs, their scores and the attention.
-/
module

public import proofs.«01_k».proof.Proof.RefAt
public import proofs.«01_k».proof.Proof.Attn

@[expose] public section

noncomputable section

namespace Cert.Words.Ref

open Idealize.ShloMosaic Idealize.SL.Sem Cert.ReferenceIdeal Cert.ReferenceIdeal.Gen Cert.ReferenceIdeal.Step

set_option maxRecDepth 16384

section
variable {F : FTy → Type} [FloatOps F]

/-- The positions reversed within each word. -/
def posIdx (a1 : Vec F S32768 .i32) : Vec F S32768x20 .i32 :=
  (select (cmpi .slt (broadcastInDim S32768x20 ![0, 1] bcast_S1x20_S32768x20_0_1 (broadcastInDim S1x20 ![1] bcast_S20_S1x20_1 (iotaInDim S20 32 0))) (broadcastInDim S32768x20 ![0, 1] bcast_S32768x1_S32768x20_0_1 (broadcastInDim S32768x1 ![0] bcast_S32768_S32768x1_0 (a1)))) (subi (broadcastInDim S32768x20 ![0, 1] bcast_S32768x1_S32768x20_0_1 (subi (broadcastInDim S32768x1 ![0] bcast_S32768_S32768x1_0 (a1)) (broadcastInDim S32768x1 ![] bcast_S_S32768x1 (constantI S_ 32 1#32)))) (broadcastInDim S32768x20 ![0, 1] bcast_S1x20_S32768x20_0_1 (broadcastInDim S1x20 ![1] bcast_S20_S1x20_1 (iotaInDim S20 32 0)))) (broadcastInDim S32768x20 ![0, 1] bcast_S1x20_S32768x20_0_1 (broadcastInDim S1x20 ![1] bcast_S20_S1x20_1 (iotaInDim S20 32 0))))

/-- The same as start indices, negative ones wrapped. -/
def revIdx (a1 : Vec F S32768 .i32) : Vec F S32768x20x1 .i32 :=
  (select (cmpi .slt (broadcastInDim S32768x20x1 ![0, 1] bcast_S32768x20_S32768x20x1_0_1 (posIdx (F := F) a1)) (broadcastInDim S32768x20x1 ![] bcast_S_S32768x20x1 (constantI S_ 32 0#32))) (addi (broadcastInDim S32768x20x1 ![0, 1] bcast_S32768x20_S32768x20x1_0_1 (posIdx (F := F) a1)) (broadcastInDim S32768x20x1 ![] bcast_S_S32768x20x1 (constantI S_ 32 20#32))) (broadcastInDim S32768x20x1 ![0, 1] bcast_S32768x20_S32768x20x1_0_1 (posIdx (F := F) a1)))

/-- The masked outputs of both directions. -/
def outs (s : State F) (a1 : Vec F S32768 .i32) : Vec F S32768x20x256 .f32 :=
  (mulf (concatenate S32768x20x256 2 [⟨S32768x20x128, (transpose S32768x20x128 [1, 0, 2] (s.main_v37_9) transposes_S20x32768x128_S32768x20x128_1_0_2)⟩, ⟨S32768x20x128, (Host.gather gather_S32768x20x128_S32768x20x1_S32768x20x128_2_1_0_0_1_2_11128 (transpose S32768x20x128 [1, 0, 2] (s.main_v37_10) transposes_S20x32768x128_S32768x20x128_1_0_2) (revIdx (F := F) a1))⟩] concatenates_S32768x20x128_S32768x20x128_S32768x20x256_d2) (broadcastInDim S32768x20x256 ![0, 1, 2] bcast_S32768x20x1_S32768x20x256_0_1_2 (uitofp .f32 (broadcastInDim S32768x20x1 ![0, 1] bcast_S32768x20_S32768x20x1_0_1 (cmpi .slt (broadcastInDim S32768x20 ![0, 1] bcast_S1x20_S32768x20_0_1 (broadcastInDim S1x20 ![1] bcast_S20_S1x20_1 (iotaInDim S20 32 0))) (broadcastInDim S32768x20 ![0, 1] bcast_S32768x1_S32768x20_0_1 (broadcastInDim S32768x1 ![0] bcast_S32768_S32768x1_0 (a1))))))))

/-- The scores. -/
def scores (o : Vec F S32768x20x256 .f32) (a11 : Vec F S128x256 .f32) (a12 : Vec F S128 .f32) (a13 : Vec F S128x1 .f32) :
    Vec F S32768x20 .f32 :=
  (Host.dotGeneral dot_S32768x20x128_S128_S32768x20_2_0_01_n_n_n none (Host.tanh (addf (Host.dotGeneral dot_S32768x20x256_S256x128_S32768x20x128_2_0_01_1_n_n none o (transpose S256x128 [1, 0] (a11) transposes_S128x256_S256x128_1_0)) (broadcastInDim S32768x20x128 ![0, 1, 2] bcast_S1x1x128_S32768x20x128_0_1_2 (broadcastInDim S1x1x128 ![2] bcast_S128_S1x1x128_2 (a12))))) (shapeCast _ (a13) shapeCasts_S128x1_S128))

/-- The exponentials, the maximum taken out. -/
def expos (sc : Vec F S32768x20 .f32) : Vec F S32768x20 .f32 :=
  (Host.exp (subf sc (broadcastInDim S32768x20 ![0, 1] bcast_S32768x1_S32768x20_0_1 (broadcastInDim S32768x1 ![0] bcast_S32768_S32768x1_0 (maximumf (broadcastInDim S32768 ![] bcast_S_S32768 (constant S_ .f32 0xFF800000#32)) (Host.reduce FloatOps.maximumf sc (constant S_ .f32 0xFF800000#32) reducesTo_S32768x20_S32768_d1 h_S_))))))

/-- The pooled outputs. -/
def pool (sc : Vec F S32768x20 .f32) (o : Vec F S32768x20x256 .f32) : Vec F S32768x256 .f32 :=
  Host.dotGeneral dot_S32768x20_S32768x20x256_S32768x256_1_1_n_2_0_0 none (Host.divf (expos sc) (broadcastInDim S32768x20 ![0, 1] bcast_S32768x1_S32768x20_0_1 (broadcastInDim S32768x1 ![0] bcast_S32768_S32768x1_0 (Host.reduceAdd (expos sc) (constant S_ .f32 0x00000000#32) reducesTo_S32768x20_S32768_d1 h_S_)))) o

theorem R_eq (s : State F) (a1 : Vec F S32768 .i32) (a11 : Vec F S128x256 .f32) (a12 : Vec F S128 .f32) (a13 : Vec F S128x1 .f32) :
    R_main_v85 s a1 a11 a12 a13 = pool (scores (outs s a1) a11 a12 a13) (outs s a1) := rfl

end

theorem truth (b : BitVec 1) :
    (FloatOps.uitofp (F := Idealize.ShloMosaic.Ideal) FTy.f32 b : EReal) = if b = 1#1 then 1 else 0 := by
  have h : b = 0#1 ∨ b = 1#1 := by
    have := b.isLt; rcases (show b.toNat = 0 ∨ b.toNat = 1 by omega) with h | h
    · exact Or.inl (BitVec.eq_of_toNat_eq h)
    · exact Or.inr (BitVec.eq_of_toNat_eq h)
  rcases h with rfl | rfl
  · show (((0 : ℕ) : ℝ) : EReal) = _; simp
  · show (((1 : ℕ) : ℝ) : EReal) = _; simp

theorem mask_at (a : BitVec 32) (t : Fin 20) : (FloatOps.uitofp (F := Idealize.ShloMosaic.Ideal) FTy.f32
    (IntOp.cmpi CmpIPredicate.slt (BitVec.ofNat 32 t) a) : EReal) = if t.val < a.toInt.toNat then 1 else 0 := by
  rw [truth]
  refine if_congr ?_ rfl rfl
  have h := toInt_lt t.val t.isLt
  by_cases e : (t.val : ℤ) < a.toInt
  · simp [IntOp.cmpi, BitVec.slt, h, e]
  · simp [IntOp.cmpi, BitVec.slt, h, e]

theorem revIdx_at (a1 : Vec Ideal S32768 .i32) (r : Fin 32768) (t : Fin 20) :
    revIdx a1 (ix3 r t 0) = wrap (pos (a1 (ix1 r)) t) := by
  pointwise [revIdx, posIdx]
  rfl

theorem outs_at (s : State Ideal) (a1 : Vec Ideal S32768 .i32) (r : Fin 32768) (hl : (a1 (ix1 r)).toInt ≤ 20)
    (f g : ℕ → Fin 128 → EReal) (hf : ∀ (t : Fin 20) (j : Fin 128), s.main_v37_9 (ix3 t r j) = f (t + 1) j)
    (hg : ∀ (t : Fin 20) (j : Fin 128), s.main_v37_10 (ix3 t r j) = g (t + 1) j) (t : Fin 20) (d : Fin 256) :
    outs s a1 (ix3 r t d) = Spec.glue (fun j => f (t + 1) j * (if t.val < (a1 (ix1 r)).toInt.toNat then 1 else 0))
      (fun j => g (Spec.rev (a1 (ix1 r)).toInt.toNat t + 1) j * (if t.val < (a1 (ix1 r)).toInt.toNat then 1 else 0)) d := by
  pointwise [outs]
  rw [mask_at]
  unfold Spec.glue
  by_cases h : d.val < 128
  · rw [dif_pos h, dif_pos h, hf]
  · rw [dif_neg h, dif_neg h, along128_at]
    pointwise []
    have e : min (revIdx a1 (ix3 r t 0)).toInt.toNat 19 = Spec.rev (a1 (ix1 r)).toInt.toNat t := by
      rw [revIdx_at, wrap_pos _ hl]
    rw [hg]
    simp only [e]

theorem scores_at (o : Vec Ideal S32768x20x256 .f32) (a11 : Vec Ideal S128x256 .f32) (a12 : Vec Ideal S128 .f32)
    (a13 : Vec Ideal S128x1 .f32) (r : Fin 32768) (t : Fin 20) : scores o a11 a12 a13 (ix2 r t) =
    Spec.score (fun c d => a11 (ix2 c d)) (fun c => a12 (ix1 c)) (fun c => a13 (ix2 c 0)) (fun d => o (ix3 r t d)) := by
  pointwise [scores]
  rfl

theorem expos_at (sc : Vec Ideal S32768x20 .f32) (r : Fin 32768) (t : Fin 20) : expos sc (ix2 r t) =
    Ideal.exp (sc (ix2 r t) - Spec.top fun t => sc (ix2 r t)) := by
  pointwise [expos]
  rw [Spec.least]
  rfl

theorem pool_at (sc : Vec Ideal S32768x20 .f32) (o : Vec Ideal S32768x20x256 .f32) (r : Fin 32768) (d : Fin 256) :
    pool sc o (ix2 r d) = ∑ t, Spec.att (fun t => sc (ix2 r t)) t * o (ix3 r t d) := by
  pointwise [pool]
  simp only [expos_at]
  rfl

/-- The reference's result at a word, from the states its loop stores. -/
theorem R_at (s : State Ideal) (a1 : Vec Ideal S32768 .i32) (a11 : Vec Ideal S128x256 .f32) (a12 : Vec Ideal S128 .f32)
    (a13 : Vec Ideal S128x1 .f32) (r : Fin 32768) (o : Fin 20 → Fin 256 → EReal) (ho : ∀ t d, outs s a1 (ix3 r t d) = o t d)
    (d : Fin 256) : R_main_v85 s a1 a11 a12 a13 (ix2 r d) =
    Spec.pooled (fun c d => a11 (ix2 c d)) (fun c => a12 (ix1 c)) (fun c => a13 (ix2 c 0)) o d := by
  rw [R_eq, pool_at]
  simp only [scores_at, ho]
  rfl

end Cert.Words.Ref

end
-- ==== Proof.RefVal.lean ====
/-
  The reference's result at a word and a feature, of the fourteen arguments.
-/
module

public import proofs.«01_k».proof.Proof.RefOut
public import proofs.«01_k».proof.Proof.KerRun

@[expose] public section

noncomputable section

namespace Cert.Words.Ref

open Idealize.ShloMosaic Idealize.ShloMosaic.TcCoe Idealize.SL.Sem
open Cert.ReferenceIdeal Cert.ReferenceIdeal.Gen Cert.ReferenceIdeal.Step

set_option maxRecDepth 16384

variable (a0 : Vec Ideal S32768x20 .i32) (a1 : Vec Ideal S32768 .i32) (a2 : Vec Ideal S128x64 .f32) (a3 : Vec Ideal S384x64 .f32)
    (a4 : Vec Ideal S384x128 .f32) (a5 a6 : Vec Ideal S384 .f32) (a7 : Vec Ideal S384x64 .f32) (a8 : Vec Ideal S384x128 .f32)
    (a9 a10 : Vec Ideal S384 .f32) (a11 : Vec Ideal S128x256 .f32) (a12 : Vec Ideal S128 .f32) (a13 : Vec Ideal S128x1 .f32)

theorem zeros_at (r : Fin 32768) (j : Fin 128) :
    (Step.init (F := Ideal) a4 a6 a8 a10 a0 a1 a2 a3 a5 a7 a9).main_v37_7 (ix2 r j) = 0 := by
  show K_main_v32 (ix2 r j) = _
  pointwise [K_main_v32, K_main_cst]

/-- The result's entry. -/
theorem out_at (h : Fits a0 a1 a13) (w : Fin 32768) (d : Fin 256) :
    R_main_v85 (iter (Step.init a4 a6 a8 a10 a0 a1 a2 a3 a5 a7 a9) 20) a1 a11 a12 a13 (ix2 w d) =
      word a0 a1 a2 a3 a4 a5 a6 a7 a8 a9 a10 a11 a12 a13 w d := by
  have hc : ∀ t : Fin 20, a0 (ix2 w t) = BitVec.ofNat 32 (Spec.chars (fun t => a0 (ix2 w t)) t) := fun t => by
    refine Eq.trans ?_ (Spec.chars_eq (fun t => a0 (ix2 w t)) (h.chars w) t)
    exact congrArg (fun k => a0 (ix2 w k)) (Fin.ext (Nat.mod_eq_of_lt t.isLt).symm)
  have hl := h.lens w
  have H := holds_iter (Step.init a4 a6 a8 a10 a0 a1 a2 a3 a5 a7 a9) w (zeros_at a0 a1 a2 a3 a4 a5 a6 a7 a8 a9 a10 w)
    (zeros_at a0 a1 a2 a3 a4 a5 a6 a7 a8 a9 a10 w) 20 (Nat.le_refl _)
  have hF : ∀ n ≤ 20, runF (Step.init a4 a6 a8 a10 a0 a1 a2 a3 a5 a7 a9) w n =
      Spec.run (fun j k => a4 (ix2 j k)) (fun j => a6 (ix1 j)) (fun t => Spec.xp (fun c e => a2 (ix2 c e)) (fun j e => a3 (ix2 j e))
        (fun j => a5 (ix1 j)) (Spec.chars (fun t => a0 (ix2 w t)) t)) n :=
    Spec.run_congr _ _ fun n hn => by
      funext j
      unfold inF
      rw [dif_pos hn]
      exact v33_at a0 a1 a2 a3 a5 a7 a9 w ⟨n, hn⟩ _ (hc ⟨n, hn⟩) j
  have hB : ∀ n ≤ 20, runB (Step.init a4 a6 a8 a10 a0 a1 a2 a3 a5 a7 a9) w n =
      Spec.run (fun j k => a8 (ix2 j k)) (fun j => a10 (ix1 j)) (fun t => Spec.xp (fun c e => a2 (ix2 c e)) (fun j e => a7 (ix2 j e))
        (fun j => a9 (ix1 j)) (Spec.chars (fun t => a0 (ix2 w t)) (Spec.rev (a1 (ix1 w)).toInt.toNat t))) n :=
    Spec.run_congr _ _ fun n hn => by
      funext j
      unfold inB
      rw [dif_pos hn]
      exact v34_at a0 a1 a2 a3 a5 a7 a9 w ⟨n, hn⟩ hl _ hc j
  unfold word
  refine R_at _ a1 a11 a12 a13 w _ (fun t d => ?_) d
  refine outs_at _ a1 w hl _ _ (fun t j => ?_) (fun t j => ?_) t d
  · rw [H.h9 t t.isLt, hF _ t.isLt]
  · rw [H.h10 t t.isLt, hB _ t.isLt]

end Cert.Words.Ref

end
-- ==== Proof.PreAt.lean ====
/-
  The precondition read: characters inside the table, lengths inside the row, a finite context vector.
-/
module

public import proofs.«01_k».proof.Pre_in_range
public import proofs.«01_k».proof.Proof.KerRun
public import Idealize.ShloMosaic.Lib.ReduceAll
public import Idealize.ShloMosaic.Lib.StableHlo.Predicate

@[expose] public section

noncomputable section

namespace Cert.Words

open Idealize.ShloMosaic

/-- The side conditions of the precondition's operations. -/
theorem preFacts : Cert.Pre_in_range.Facts where
  bcast_S_S32768x20 := by decide
  reducesTo_S32768x20_S_d0_1 := by decide
  h_S_ := by decide
  bcast_S_S32768 := by decide
  reducesTo_S32768_S_d0 := by decide
  bcast_S_S128x1 := by decide
  reducesTo_S128x1_S_d0_1 := by decide

open Cert.Pre_in_range (S32768x20 S32768 S128x64 S384x64 S384x128 S384 S128x256 S128 S128x1 S_)

theorem top_bits : Ideal.ofBits FTy.f32 2139095040#32 = ⊤ := by
  show Ideal.ieee 8 23 2139095040#32 = _
  unfold Ideal.ieee
  norm_num [BitVec.extractLsb', Nat.shiftRight_eq_div_pow, zpow_neg]

/-- Arguments the precondition accepts fit. -/
theorem fits [hP : Cert.Pre_in_range.Facts] (a0 : IVec S32768x20 32) (a1 : IVec S32768 32) (a2 : FVec Ideal S128x64 .f32) (a3 : FVec Ideal S384x64 .f32)
    (a4 : FVec Ideal S384x128 .f32) (a5 a6 : FVec Ideal S384 .f32) (a7 : FVec Ideal S384x64 .f32) (a8 : FVec Ideal S384x128 .f32)
    (a9 a10 : FVec Ideal S384 .f32) (a11 : FVec Ideal S128x256 .f32) (a12 : FVec Ideal S128 .f32) (a13 : FVec Ideal S128x1 .f32)
    (i : S_.Idx) (h : Cert.Pre_in_range.fn (F := Ideal) a0 a1 a2 a3 a4 a5 a6 a7 a8 a9 a10 a11 a12 a13 i = 1#1) : Fits a0 a1 a13 := by
  have : Subsingleton S_.Idx := ⟨fun a b => funext fun k => k.elim0⟩
  unfold Cert.Pre_in_range.fn at h
  obtain ⟨h, h4⟩ := IntOp.andi_eq_one.1 h
  obtain ⟨h, h3⟩ := IntOp.andi_eq_one.1 h
  obtain ⟨h1, h2⟩ := IntOp.andi_eq_one.1 h
  refine ⟨fun w t => ?_, fun w => ?_, fun c => ?_⟩
  · have e1 := Host.reduce_andi_all _ _ _ _ _ h1 (ix2 w t)
    have e2 := Host.reduce_andi_all _ _ _ _ _ h2 (ix2 w t)
    have l1 : (0#32 : BitVec 32).sle (a0 (ix2 w t)) = true := (StableHlo.Predicate.ofBool_eq_one_iff _).1 e1
    have l2 : (a0 (ix2 w t)).slt 128#32 = true := (StableHlo.Predicate.ofBool_eq_one_iff _).1 e2
    simp only [BitVec.sle, BitVec.slt, decide_eq_true_eq, show (0#32 : BitVec 32).toInt = 0 from rfl, show (128#32 : BitVec 32).toInt = 128 from rfl] at l1 l2
    rw [BitVec.toInt_eq_toNat_cond] at l1 l2
    split at l1 <;> omega
  · have e := Host.reduce_andi_all _ _ _ _ _ h3 (ix1 w)
    have l : (a1 (ix1 w)).sle 20#32 = true := (StableHlo.Predicate.ofBool_eq_one_iff _).1 e
    simpa only [BitVec.sle, decide_eq_true_eq, show (20#32 : BitVec 32).toInt = 20 from rfl] using l
  · have e := Host.reduce_andi_all _ _ _ _ _ h4 (ix2 c 0)
    have l : Ideal.cmp CmpFPredicate.olt (max (a13 (ix2 c 0)) (-(a13 (ix2 c 0)))) (Ideal.ofBits FTy.f32 2139095040#32) = 1#1 := e
    rw [top_bits] at l
    generalize a13 (ix2 c 0) = x at l ⊢
    induction x using EReal.rec with
    | bot => simp [Ideal.cmp] at l
    | top => simp [Ideal.cmp] at l
    | coe x => exact ⟨x, rfl⟩

end Cert.Words

end
-- ==== Proof.lean ====
module

public import proofs.«01_k».proof.Defs
public import proofs.«01_k».proof.Proof.Gen.Kernel.Frame
public import proofs.«01_k».proof.Proof.KerRun
public import proofs.«01_k».proof.Proof.RefVal
public import proofs.«01_k».proof.Proof.PreAt

@[expose] public section

open Idealize.ShloMosaic Idealize.ShloMosaic.TcCoe Idealize.SL.Sem

namespace Cert.Proof

/-- The kernel's frame at the bit-exact floats. -/
theorem frame_p : Cert.quiescent_Kernel := fun m ρ _ => Cert.Kernel.Gen.frame m ρ

/-- The kernel's frame at the ideal floats. -/
theorem frame_pi : Cert.quiescent_KernelIdeal := fun m ρ _ => Cert.KernelIdeal.Gen.frame m ρ

/-- The same, of the arguments the equality is about. -/
theorem frame_pi_pre [hPre_in_range : Cert.Pre_in_range.Facts] : Cert.quiescent_KernelIdeal_pre_in_range :=
  fun m ρ _ => Cert.KernelIdeal.Gen.frame m ρ

/-- The reference's frame, read off its run. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The same, of the arguments the equality is about. -/
theorem frame_ri_pre [hPre_in_range : Cert.Pre_in_range.Facts] : Cert.quiescent_ReferenceIdeal_pre_in_range := fun m ρ _ => frame_ri m ρ trivial

/-- The reference's result is the kernel's. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.Words.Fits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg13)))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    : Cert.Words.Ref.out m' c = Cert.Words.K m c := by
  unfold Cert.Words.Ref.out Cert.Words.Ref.start
  rw [e0, e1, e2, e3, e4, e5, e6, e7, e8, e9, e10, e11, e12, e13]
  funext i
  have hi : (i : Cert.KernelIdeal.S32768x256.Idx) = ix2 (i 0) (i 1) := by blk_ext
  rw [hi]
  exact Cert.Words.Ref.out_at _ _ _ _ _ _ _ _ _ _ _ _ _ _ h (i 0) (i 1)

/-- The kernel and the reference end with the same result. -/
theorem algebraic [hPre_in_range : Cert.Pre_in_range.Facts] : Cert.algebraic_KernelIdeal_ReferenceIdeal_pre_in_range := by
  intro m ρ m' ρ' hp ha
  have hf : ∀ c : Dev Cert.KernelIdeal.nD, Cert.Words.Fits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg13)) := fun c =>
    Cert.Words.fits _ _ _ _ _ _ _ _ _ _ _ _ _ _ (fun k => k.elim0) (congrFun (hp c) _)
  refine ⟨Cert.Words.K m, ?_, ?_⟩
  · exact (θ_run Cert.KernelIdeal.defs _ _).mono
      (fun _ h c => ⟨((h.1 c).1 12).trans (Cert.Words.final m c (hf c)), h.2 c⟩)
      (θ_run_and (Cert.KernelIdeal.Gen.run_main m ρ) (Cert.KernelIdeal.Gen.unchanged m ρ))
  · refine (θ_run Cert.ReferenceIdeal.defs _ _).mono (fun _ h c => ⟨(h c).1.trans ?_, (h c).2⟩) (Cert.ReferenceIdeal.Value.run m' ρ')
    rw [Cert.Words.Ref.out_eq]
    obtain ⟨e0, e1, e2, e3, e4, e5, e6, e7, e8, e9, e10, e11, e12, e13⟩ := ha c
    exact agree m m' c (hf c) e0 e1 e2 e3 e4 e5 e6 e7 e8 e9 e10 e11 e12 e13

/-- The certificate's claim. -/
theorem claim : Cert.Claim :=
  ⟨Cert.Kernel.Gen.facts, Cert.KernelIdeal.Gen.facts, Cert.ReferenceIdeal.Gen.facts, Cert.Words.preFacts,
    frame_p, frame_pi, frame_pi_pre (hPre_in_range := Cert.Words.preFacts), frame_ri,
    frame_ri_pre (hPre_in_range := Cert.Words.preFacts), trivial, algebraic (hPre_in_range := Cert.Words.preFacts)⟩

end Cert.Proof

end
